-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 512, 768]⟩ ⟨3, ![2, 4096, 768]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 512]⟩ ⟨2, ![768, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 768]⟩ ⟨2, ![4096, 768]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = Layout.block ⟨3, ![2, 512, 768]⟩ ⟨3, ![2, 4096, 768]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v45) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x768 : Shape := ⟨3, ![2, 512, 768]⟩
abbrev S768x512 : Shape := ⟨2, ![768, 512]⟩
abbrev S2x512x64x64 : Shape := ⟨4, ![2, 512, 64, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S2x512x64x64 : S_.BroadcastsInDim S2x512x64x64 (![] : Fin 0 → Fin S2x512x64x64.rank)
  reducesTo_S2x512x64x64_S_d0_1_2_3 : S2x512x64x64.ReducesTo [0, 1, 2, 3] S_

variable [Facts]

def fn {F : FTy → Type} [FloatOps F] (main_arg0 : FVec F S2x512x768 .bf16) (main_arg1 : FVec F S768x512 .bf16) (main_arg2 : FVec F S2x512x64x64 .bf16) (main_arg3 : FVec F S2x512x64x64 .bf16) (main_arg4 : FVec F S512x768 .bf16) : IVec S_ 1 :=
  let main_v0 : FVec F S2x512x768 .bf16 := Host.absf main_arg0
  let main_cst : FVec F S_ .bf16 := constant S_ .bf16 0x7F80#16
  let main_v1 : FVec F S2x512x768 .bf16 := broadcastInDim S2x512x768 ![] bcast_S_S2x512x768 main_cst
  let main_v2 : IVec S2x512x768 1 := cmpf .olt main_v0 main_v1
  let main_c : IVec S_ 1 := constantI S_ 1 1#1
  let main_v3 : IVec S_ 1 := (fun x v => Host.reduce IntOp.andi x v reducesTo_S2x512x768_S_d0_1_2 h_S_) main_v2 main_c
  let main_v4 : FVec F S768x512 .bf16 := Host.absf main_arg1
  let main_cst_0 : FVec F S_ .bf16 := constant S_ .bf16 0x7F80#16
  let main_v5 : FVec F S768x512 .bf16 := broadcastInDim S768x512 ![] bcast_S_S768x512 main_cst_0
  let main_v6 : IVec S768x512 1 := cmpf .olt main_v4 main_v5
  let main_c_1 : IVec S_ 1 := constantI S_ 1 1#1
  let main_v7 : IVec S_ 1 := (fun x v => Host.reduce IntOp.andi x v reducesTo_S768x512_S_d0_1 h_S_) main_v6 main_c_1
  let main_v8 : IVec S_ 1 := andi main_v3 main_v7
  let main_v9 : FVec F S2x512x64x64 .bf16 := Host.absf main_arg2
  let main_cst_2 : FVec F S_ .bf16 := constant S_ .bf16 0x7F80#16
  let main_v10 : FVec F S2x512x64x64 .bf16 := broadcastInDim S2x512x64x64 ![] bcast_S_S2x512x64x64 main_cst_2
  let main_v11 : IVec S2x512x64x64 1 := cmpf .olt main_v9 main_v10
  let main_c_3 : IVec S_ 1 := constantI S_ 1 1#1
  let main_v12 : IVec S_ 1 := (fun x v => Host.reduce IntOp.andi x v reducesTo_S2x512x64x64_S_d0_1_2_3 h_S_) main_v11 main_c_3
  let main_v13 : IVec S_ 1 := andi main_v8 main_v12
  main_v13
-- ==== Pre_finite_ReferenceIdeal.lean ====
abbrev S2x4096x768 : Shape := ⟨3, ![2, 4096, 768]⟩
abbrev S768x4096 : Shape := ⟨2, ![768, 4096]⟩
abbrev S2x512x64x64 : Shape := ⟨4, ![2, 512, 64, 64]⟩
abbrev S4096x768 : Shape := ⟨2, ![4096, 768]⟩
abbrev S_ : Shape := ⟨0, ![]⟩

class Facts : Prop where
  bcast_S_S2x4096x768 : S_.BroadcastsInDim S2x4096x768 (![] : Fin 0 → Fin S2x4096x768.rank)
  reducesTo_S2x4096x768_S_d0_1_2 : S2x4096x768.ReducesTo [0, 1, 2] S_
  h_S_ : 0 < S_.numel
  bcast_S_S768x4096 : S_.BroadcastsInDim S768x4096 (![] : Fin 0 → Fin S768x4096.rank)
  reducesTo_S768x4096_S_d0_1 : S768x4096.ReducesTo [0, 1] S_
  bcast_S_S2x512x64x64 : S_.BroadcastsInDim S2x512x64x64 (![] : Fin 0 → Fin S2x512x64x64.rank)
  reducesTo_S2x512x64x64_S_d0_1_2_3 : S2x512x64x64.ReducesTo [0, 1, 2, 3] S_

variable [Facts]

def fn {F : FTy → Type} [FloatOps F] (main_arg0 : FVec F S2x4096x768 .bf16) (main_arg1 : FVec F S768x4096 .bf16) (main_arg2 : FVec F S2x512x64x64 .bf16) (main_arg3 : FVec F S2x512x64x64 .bf16) (main_arg4 : FVec F S4096x768 .bf16) : IVec S_ 1 :=
  let main_v0 : FVec F S2x4096x768 .bf16 := Host.absf main_arg0
  let main_cst : FVec F S_ .bf16 := constant S_ .bf16 0x7F80#16
  let main_v1 : FVec F S2x4096x768 .bf16 := broadcastInDim S2x4096x768 ![] bcast_S_S2x4096x768 main_cst
  let main_v2 : IVec S2x4096x768 1 := cmpf .olt main_v0 main_v1
  let main_c : IVec S_ 1 := constantI S_ 1 1#1
  let main_v3 : IVec S_ 1 := (fun x v => Host.reduce IntOp.andi x v reducesTo_S2x4096x768_S_d0_1_2 h_S_) main_v2 main_c
  let main_v4 : FVec F S768x4096 .bf16 := Host.absf main_arg1
  let main_cst_0 : FVec F S_ .bf16 := constant S_ .bf16 0x7F80#16
  let main_v5 : FVec F S768x4096 .bf16 := broadcastInDim S768x4096 ![] bcast_S_S768x4096 main_cst_0
  let main_v6 : IVec S768x4096 1 := cmpf .olt main_v4 main_v5
  let main_c_1 : IVec S_ 1 := constantI S_ 1 1#1
  let main_v7 : IVec S_ 1 := (fun x v => Host.reduce IntOp.andi x v reducesTo_S768x4096_S_d0_1 h_S_) main_v6 main_c_1
  let main_v8 : IVec S_ 1 := andi main_v3 main_v7
  let main_v9 : FVec F S2x512x64x64 .bf16 := Host.absf main_arg2
  let main_cst_2 : FVec F S_ .bf16 := constant S_ .bf16 0x7F80#16
  let main_v10 : FVec F S2x512x64x64 .bf16 := broadcastInDim S2x512x64x64 ![] bcast_S_S2x512x64x64 main_cst_2
  let main_v11 : IVec S2x512x64x64 1 := cmpf .olt main_v9 main_v10
  let main_c_3 : IVec S_ 1 := constantI S_ 1 1#1
  let main_v12 : IVec S_ 1 := (fun x v => Host.reduce IntOp.andi x v reducesTo_S2x512x64x64_S_d0_1_2_3 h_S_) main_v11 main_c_3
  let main_v13 : IVec S_ 1 := andi main_v8 main_v12
  main_v13
-- ==== Kernel.lean ====
abbrev S2x512x768 : Shape := ⟨3, ![2, 512, 768]⟩
abbrev S768x512 : Shape := ⟨2, ![768, 512]⟩
abbrev S2x512x64x64 : Shape := ⟨4, ![2, 512, 64, 64]⟩
abbrev S512x768 : Shape := ⟨2, ![512, 768]⟩
abbrev S1024x768 : Shape := ⟨2, ![1024, 768]⟩
abbrev S_ : Shape := ⟨0, ![]⟩
abbrev S768x1024 : Shape := ⟨2, ![768, 1024]⟩
abbrev S2x64x64x512 : Shape := ⟨4, ![2, 64, 64, 512]⟩
abbrev S8x768x1024 : Shape := ⟨3, ![8, 768, 1024]⟩
abbrev S1024x512 : Shape := ⟨2, ![1024, 512]⟩
abbrev S7 : Shape := ⟨1, ![7]⟩
abbrev S8 : Shape := ⟨1, ![8]⟩
abbrev S1x768x1024 : Shape := ⟨3, ![1, 768, 1024]⟩
abbrev S512x512 : Shape := ⟨2, ![512, 512]⟩
abbrev S1 : Shape := ⟨1, ![1]⟩
abbrev S1x768x512 : Shape := ⟨3, ![1, 768, 512]⟩
abbrev S512x128 : Shape := ⟨2, ![512, 128]⟩
abbrev S512x64 : Shape := ⟨2, ![512, 64]⟩
abbrev S1x1x64x512 : Shape := ⟨4, ![1, 1, 64, 512]⟩
abbrev S64x512 : Shape := ⟨2, ![64, 512]⟩
abbrev S512 : Shape := ⟨1, ![512]⟩
abbrev S512x1 : Shape := ⟨2, ![512, 1]⟩
abbrev S1x512x768 : Shape := ⟨3, ![1, 512, 768]⟩

abbrev nBuf : Space → Nat
  | .hbm => 14
  | .vmem => 9
  | .smem => 0
  | _ => 0

abbrev bufTy : (tb : Table) → Fin (tcTables nBuf tb) → BufTy
  | .hbm, ⟨0, _⟩ => ⟨S2x512x768, .bf16⟩
  | .hbm, ⟨1, _⟩ => ⟨S768x512, .bf16⟩
  | .hbm, ⟨2, _⟩ => ⟨S2x512x64x64, .bf16⟩
  | .hbm, ⟨3, _⟩ => ⟨S2x512x64x64, .bf16⟩
  | .hbm, ⟨4, _⟩ => ⟨S512x768, .bf16⟩
  | .hbm, ⟨5, _⟩ => ⟨S1024x768, .bf16⟩
  | .hbm, ⟨6, _⟩ => ⟨S_, .bf16⟩
  | .hbm, ⟨7, _⟩ => ⟨S768x512, .bf16⟩
  | .hbm, ⟨8, _⟩ => ⟨S768x512, .bf16⟩
  | .hbm, ⟨9, _⟩ => ⟨S768x512, .bf16⟩
  | .hbm, ⟨10, _⟩ => ⟨S768x1024, .bf16⟩
  | .hbm, ⟨11, _⟩ => ⟨S2x64x64x512, .bf16⟩
  | .hbm, ⟨12, _⟩ => ⟨S2x64x64x512, .bf16⟩
  | .hbm, ⟨13, _⟩ => ⟨S2x512x768, .bf16⟩
  | .local _ .vmem, ⟨0, _⟩ => ⟨S1024x768, .bf16⟩
  | .local _ .vmem, ⟨1, _⟩ => ⟨S768x1024, .bf16⟩
  | .local _ .vmem, ⟨2, _⟩ => ⟨S2x64x64x512, .bf16⟩
  | .local _ .vmem, ⟨3, _⟩ => ⟨S2x64x64x512, .bf16⟩
  | .local _ .vmem, ⟨4, _⟩ => ⟨S2x512x768, .bf16⟩
  | .local _ .vmem, ⟨5, _⟩ => ⟨S8x768x1024, .bf16⟩
  | .local _ .vmem, ⟨6, _⟩ => ⟨S1024x512, .bf16⟩
  | .local _ .vmem, ⟨7, _⟩ => ⟨S1024x512, .bf16⟩
  | .local _ .vmem, ⟨8, _⟩ => ⟨S1024x768, .f32⟩
  | _, _ => ⟨S2x512x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_7 : BitVec 32 := 1#32
  let v11 : BitVec 32 := Scalar.muli v7 c1_i32_7
  let v12 : BitVec 32 := Scalar.addi c0_i32 v11
  v12.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_9 : BitVec 32 := 1#32
  let v13 : BitVec 32 := Scalar.muli v4 c1_i32_9
  let v14 : BitVec 32 := Scalar.addi c0_i32_10 v13
  v14.toNat
def k0_dev3 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v8 : BitVec 32 := Scalar.addi v2 c4_i32
  let c8_i32_5 : BitVec 32 := 8#32
  let v9 : BitVec 32 := Scalar.remsi v8 c8_i32_5
  let c1_i32_12 : BitVec 32 := 1#32
  let v15 : BitVec 32 := Scalar.muli v9 c1_i32_12
  let v16 : BitVec 32 := Scalar.addi c0_i32_13 v15
  v16.toNat
def k0_dev4 (d0 : Dev nD) : Nat :=
  let c0_i32_52 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_51 : BitVec 32 := 1#32
  let v112 : BitVec 32 := Scalar.muli v4 c1_i32_51
  let v113 : BitVec 32 := Scalar.addi c0_i32_52 v112
  v113.toNat
def k0_dev5 (d0 : Dev nD) : Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_60 : BitVec 32 := 1#32
  let v122 : BitVec 32 := Scalar.muli v7 c1_i32_60
  let v123 : BitVec 32 := Scalar.addi c0_i32_61 v122
  v123.toNat
def k0_dev6 (d0 : Dev nD) : Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v8 : BitVec 32 := Scalar.addi v2 c4_i32
  let c8_i32_5 : BitVec 32 := 8#32
  let v9 : BitVec 32 := Scalar.remsi v8 c8_i32_5
  let c1_i32_70 : BitVec 32 := 1#32
  let v132 : BitVec 32 := Scalar.muli v9 c1_i32_70
  let v133 : BitVec 32 := Scalar.addi c0_i32_71 v132
  v133.toNat
@[reducible] def k0_t1_loop : Scf.Loop 32 :=
  let c0_i32_84 : BitVec 32 := 0#32
  let c4_i32_85 : BitVec 32 := 4#32
  let v151 : BitVec 32 := Scalar.addi c0_i32_84 c4_i32_85
  let c1_i32_86 : BitVec 32 := 1#32
  ⟨c0_i32_84, v151, c1_i32_86⟩
def k0_off1 (k0_t1 : Fin k0_t1_loop.trips) : Fin 2 → Nat :=
  let c0_434 : Index := 0#32
  let c0_i32_84 : BitVec 32 := 0#32
  let c1_i32_86 : BitVec 32 := 1#32
  let arg11 : BitVec 32 := Scf.iv c0_i32_84 c1_i32_86 k0_t1
  let c128_i32 : BitVec 32 := 128#32
  let v452 : BitVec 32 := Scalar.muli arg11 c128_i32
  let v453 : Index := Scalar.indexCast v452
  ![0, v453.toNat]
def k0_off2 (d0 : Dev nD) (k0_t1 : Fin k0_t1_loop.trips) (c0_i32_437 : BitVec 32) : Fin 4 → Nat :=
  let c0_438 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_435 : BitVec 32 := 8#32
  let v455 : BitVec 32 := Scalar.muli v2 c8_i32_435
  let c0_i32_84 : BitVec 32 := 0#32
  let c1_i32_86 : BitVec 32 := 1#32
  let arg11 : BitVec 32 := Scf.iv c0_i32_84 c1_i32_86 k0_t1
  let c2_i32_436 : BitVec 32 := 2#32
  let v456 : BitVec 32 := Scalar.muli arg11 c2_i32_436
  let v457 : BitVec 32 := Scalar.addi v455 v456
  let v458 : BitVec 32 := Scalar.addi v457 c0_i32_437
  let v460 : Index := Scalar.indexCast v458
  let c0_439 : Index := 0#32
  let c0_440 : Index := 0#32
  ![0, v460.toNat, 0, 0]
def k0_off3 (k0_t1 : Fin k0_t1_loop.trips) : Fin 2 → Nat :=
  let c512_462 : Index := 512#32
  let c0_i32_84 : BitVec 32 := 0#32
  let c1_i32_86 : BitVec 32 := 1#32
  let arg11 : BitVec 32 := Scf.iv c0_i32_84 c1_i32_86 k0_t1
  let c128_i32 : BitVec 32 := 128#32
  let v452 : BitVec 32 := Scalar.muli arg11 c128_i32
  let v506 : Index := Scalar.indexCast v452
  ![512, v506.toNat]
def k0_off4 (d0 : Dev nD) (k0_t1 : Fin k0_t1_loop.trips) (c0_i32_465 : BitVec 32) : Fin 4 → Nat :=
  let c1_466 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_463 : BitVec 32 := 8#32
  let v508 : BitVec 32 := Scalar.muli v2 c8_i32_463
  let c0_i32_84 : BitVec 32 := 0#32
  let c1_i32_86 : BitVec 32 := 1#32
  let arg11 : BitVec 32 := Scf.iv c0_i32_84 c1_i32_86 k0_t1
  let c2_i32_464 : BitVec 32 := 2#32
  let v509 : BitVec 32 := Scalar.muli arg11 c2_i32_464
  let v510 : BitVec 32 := Scalar.addi v508 v509
  let v511 : BitVec 32 := Scalar.addi v510 c0_i32_465
  let v513 : Index := Scalar.indexCast v511
  let c0_467 : Index := 0#32
  let c0_468 : Index := 0#32
  ![1, v513.toNat, 0, 0]
def k0_dev7 (d0 : Dev nD) : Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_111 : BitVec 32 := 1#32
  let v169 : BitVec 32 := Scalar.muli v4 c1_i32_111
  let v170 : BitVec 32 := Scalar.addi c0_i32_112 v169
  v170.toNat
def k0_dev8 (d0 : Dev nD) : Nat :=
  let c0_i32_131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_130 : BitVec 32 := 1#32
  let v187 : BitVec 32 := Scalar.muli v7 c1_i32_130
  let v188 : BitVec 32 := Scalar.addi c0_i32_131 v187
  v188.toNat
@[reducible] def k0_t2_loop : Scf.Loop 32 :=
  let c0_i32_153 : BitVec 32 := 0#32
  let c4_i32_154 : BitVec 32 := 4#32
  let v214 : BitVec 32 := Scalar.addi c0_i32_153 c4_i32_154
  let c1_i32_155 : BitVec 32 := 1#32
  ⟨c0_i32_153, v214, c1_i32_155⟩
def k0_off5 (k0_t2 : Fin k0_t2_loop.trips) : Fin 2 → Nat :=
  let c0_434 : Index := 0#32
  let c0_i32_153 : BitVec 32 := 0#32
  let c1_i32_155 : BitVec 32 := 1#32
  let arg11 : BitVec 32 := Scf.iv c0_i32_153 c1_i32_155 k0_t2
  let c128_i32 : BitVec 32 := 128#32
  let v452 : BitVec 32 := Scalar.muli arg11 c128_i32
  let v453 : Index := Scalar.indexCast v452
  ![0, v453.toNat]
def k0_off6 (d0 : Dev nD) (k0_t2 : Fin k0_t2_loop.trips) (c0_i32_437 : BitVec 32) : Fin 4 → Nat :=
  let c0_438 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c8_i32_435 : BitVec 32 := 8#32
  let v455 : BitVec 32 := Scalar.muli v7 c8_i32_435
  let c0_i32_153 : BitVec 32 := 0#32
  let c1_i32_155 : BitVec 32 := 1#32
  let arg11 : BitVec 32 := Scf.iv c0_i32_153 c1_i32_155 k0_t2
  let c2_i32_436 : BitVec 32 := 2#32
  let v456 : BitVec 32 := Scalar.muli arg11 c2_i32_436
  let v457 : BitVec 32 := Scalar.addi v455 v456
  let v458 : BitVec 32 := Scalar.addi v457 c0_i32_437
  let v460 : Index := Scalar.indexCast v458
  let c0_439 : Index := 0#32
  let c0_440 : Index := 0#32
  ![0, v460.toNat, 0, 0]
def k0_off7 (k0_t2 : Fin k0_t2_loop.trips) : Fin 2 → Nat :=
  let c512_462 : Index := 512#32
  let c0_i32_153 : BitVec 32 := 0#32
  let c1_i32_155 : BitVec 32 := 1#32
  let arg11 : BitVec 32 := Scf.iv c0_i32_153 c1_i32_155 k0_t2
  let c128_i32 : BitVec 32 := 128#32
  let v452 : BitVec 32 := Scalar.muli arg11 c128_i32
  let v506 : Index := Scalar.indexCast v452
  ![512, v506.toNat]
def k0_off8 (d0 : Dev nD) (k0_t2 : Fin k0_t2_loop.trips) (c0_i32_465 : BitVec 32) : Fin 4 → Nat :=
  let c1_466 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c8_i32_463 : BitVec 32 := 8#32
  let v508 : BitVec 32 := Scalar.muli v7 c8_i32_463
  let c0_i32_153 : BitVec 32 := 0#32
  let c1_i32_155 : BitVec 32 := 1#32
  let arg11 : BitVec 32 := Scf.iv c0_i32_153 c1_i32_155 k0_t2
  let c2_i32_464 : BitVec 32 := 2#32
  let v509 : BitVec 32 := Scalar.muli arg11 c2_i32_464
  let v510 : BitVec 32 := Scalar.addi v508 v509
  let v511 : BitVec 32 := Scalar.addi v510 c0_i32_465
  let v513 : Index := Scalar.indexCast v511
  let c0_467 : Index := 0#32
  let c0_468 : Index := 0#32
  ![1, v513.toNat, 0, 0]
@[reducible] def k0_t3_loop : Scf.Loop 32 :=
  let c0_i32_174 : BitVec 32 := 0#32
  let c4_i32_175 : BitVec 32 := 4#32
  let v233 : BitVec 32 := Scalar.addi c0_i32_174 c4_i32_175
  let c1_i32_176 : BitVec 32 := 1#32
  ⟨c0_i32_174, v233, c1_i32_176⟩
def k0_off9 (k0_t3 : Fin k0_t3_loop.trips) : Fin 2 → Nat :=
  let c0_434 : Index := 0#32
  let c0_i32_174 : BitVec 32 := 0#32
  let c1_i32_176 : BitVec 32 := 1#32
  let arg11 : BitVec 32 := Scf.iv c0_i32_174 c1_i32_176 k0_t3
  let c128_i32 : BitVec 32 := 128#32
  let v452 : BitVec 32 := Scalar.muli arg11 c128_i32
  let v453 : Index := Scalar.indexCast v452
  ![0, v453.toNat]
def k0_off10 (d0 : Dev nD) (k0_t3 : Fin k0_t3_loop.trips) (c0_i32_437 : BitVec 32) : Fin 4 → Nat :=
  let c0_438 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c8_i32_435 : BitVec 32 := 8#32
  let v455 : BitVec 32 := Scalar.muli v4 c8_i32_435
  let c0_i32_174 : BitVec 32 := 0#32
  let c1_i32_176 : BitVec 32 := 1#32
  let arg11 : BitVec 32 := Scf.iv c0_i32_174 c1_i32_176 k0_t3
  let c2_i32_436 : BitVec 32 := 2#32
  let v456 : BitVec 32 := Scalar.muli arg11 c2_i32_436
  let v457 : BitVec 32 := Scalar.addi v455 v456
  let v458 : BitVec 32 := Scalar.addi v457 c0_i32_437
  let v460 : Index := Scalar.indexCast v458
  let c0_439 : Index := 0#32
  let c0_440 : Index := 0#32
  ![0, v460.toNat, 0, 0]
def k0_off11 (k0_t3 : Fin k0_t3_loop.trips) : Fin 2 → Nat :=
  let c512_462 : Index := 512#32
  let c0_i32_174 : BitVec 32 := 0#32
  let c1_i32_176 : BitVec 32 := 1#32
  let arg11 : BitVec 32 := Scf.iv c0_i32_174 c1_i32_176 k0_t3
  let c128_i32 : BitVec 32 := 128#32
  let v452 : BitVec 32 := Scalar.muli arg11 c128_i32
  let v506 : Index := Scalar.indexCast v452
  ![512, v506.toNat]
def k0_off12 (d0 : Dev nD) (k0_t3 : Fin k0_t3_loop.trips) (c0_i32_465 : BitVec 32) : Fin 4 → Nat :=
  let c1_466 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c8_i32_463 : BitVec 32 := 8#32
  let v508 : BitVec 32 := Scalar.muli v4 c8_i32_463
  let c0_i32_174 : BitVec 32 := 0#32
  let c1_i32_176 : BitVec 32 := 1#32
  let arg11 : BitVec 32 := Scf.iv c0_i32_174 c1_i32_176 k0_t3
  let c2_i32_464 : BitVec 32 := 2#32
  let v509 : BitVec 32 := Scalar.muli arg11 c2_i32_464
  let v510 : BitVec 32 := Scalar.addi v508 v509
  let v511 : BitVec 32 := Scalar.addi v510 c0_i32_465
  let v513 : Index := Scalar.indexCast v511
  let c0_467 : Index := 0#32
  let c0_468 : Index := 0#32
  ![1, v513.toNat, 0, 0]
@[reducible] def k0_t4_loop : Scf.Loop 32 :=
  let c0_i32_195 : BitVec 32 := 0#32
  let c4_i32_196 : BitVec 32 := 4#32
  let v252 : BitVec 32 := Scalar.addi c0_i32_195 c4_i32_196
  let c1_i32_197 : BitVec 32 := 1#32
  ⟨c0_i32_195, v252, c1_i32_197⟩
def k0_off13 (k0_t4 : Fin k0_t4_loop.trips) : Fin 2 → Nat :=
  let c0_434 : Index := 0#32
  let c0_i32_195 : BitVec 32 := 0#32
  let c1_i32_197 : BitVec 32 := 1#32
  let arg11 : BitVec 32 := Scf.iv c0_i32_195 c1_i32_197 k0_t4
  let c128_i32 : BitVec 32 := 128#32
  let v452 : BitVec 32 := Scalar.muli arg11 c128_i32
  let v453 : Index := Scalar.indexCast v452
  ![0, v453.toNat]
def k0_off14 (d0 : Dev nD) (k0_t4 : Fin k0_t4_loop.trips) (c0_i32_437 : BitVec 32) : Fin 4 → Nat :=
  let c0_438 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v8 : BitVec 32 := Scalar.addi v2 c4_i32
  let c8_i32_5 : BitVec 32 := 8#32
  let v9 : BitVec 32 := Scalar.remsi v8 c8_i32_5
  let c8_i32_435 : BitVec 32 := 8#32
  let v455 : BitVec 32 := Scalar.muli v9 c8_i32_435
  let c0_i32_195 : BitVec 32 := 0#32
  let c1_i32_197 : BitVec 32 := 1#32
  let arg11 : BitVec 32 := Scf.iv c0_i32_195 c1_i32_197 k0_t4
  let c2_i32_436 : BitVec 32 := 2#32
  let v456 : BitVec 32 := Scalar.muli arg11 c2_i32_436
  let v457 : BitVec 32 := Scalar.addi v455 v456
  let v458 : BitVec 32 := Scalar.addi v457 c0_i32_437
  let v460 : Index := Scalar.indexCast v458
  let c0_439 : Index := 0#32
  let c0_440 : Index := 0#32
  ![0, v460.toNat, 0, 0]
def k0_off15 (k0_t4 : Fin k0_t4_loop.trips) : Fin 2 → Nat :=
  let c512_462 : Index := 512#32
  let c0_i32_195 : BitVec 32 := 0#32
  let c1_i32_197 : BitVec 32 := 1#32
  let arg11 : BitVec 32 := Scf.iv c0_i32_195 c1_i32_197 k0_t4
  let c128_i32 : BitVec 32 := 128#32
  let v452 : BitVec 32 := Scalar.muli arg11 c128_i32
  let v506 : Index := Scalar.indexCast v452
  ![512, v506.toNat]
def k0_off16 (d0 : Dev nD) (k0_t4 : Fin k0_t4_loop.trips) (c0_i32_465 : BitVec 32) : Fin 4 → Nat :=
  let c1_466 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v8 : BitVec 32 := Scalar.addi v2 c4_i32
  let c8_i32_5 : BitVec 32 := 8#32
  let v9 : BitVec 32 := Scalar.remsi v8 c8_i32_5
  let c8_i32_463 : BitVec 32 := 8#32
  let v508 : BitVec 32 := Scalar.muli v9 c8_i32_463
  let c0_i32_195 : BitVec 32 := 0#32
  let c1_i32_197 : BitVec 32 := 1#32
  let arg11 : BitVec 32 := Scf.iv c0_i32_195 c1_i32_197 k0_t4
  let c2_i32_464 : BitVec 32 := 2#32
  let v509 : BitVec 32 := Scalar.muli arg11 c2_i32_464
  let v510 : BitVec 32 := Scalar.addi v508 v509
  let v511 : BitVec 32 := Scalar.addi v510 c0_i32_465
  let v513 : Index := Scalar.indexCast v511
  let c0_467 : Index := 0#32
  let c0_468 : Index := 0#32
  ![1, v513.toNat, 0, 0]
def k0_dev9 (d0 : Dev nD) : Nat :=
  let c0_i32_223 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_222 : BitVec 32 := 1#32
  let v270 : BitVec 32 := Scalar.muli v4 c1_i32_222
  let v271 : BitVec 32 := Scalar.addi c0_i32_223 v270
  v271.toNat
def k0_dev10 (d0 : Dev nD) : Nat :=
  let c0_i32_242 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_241 : BitVec 32 := 1#32
  let v288 : BitVec 32 := Scalar.muli v7 c1_i32_241
  let v289 : BitVec 32 := Scalar.addi c0_i32_242 v288
  v289.toNat
@[reducible] def k0_t5_loop : Scf.Loop 32 :=
  let c0_i32_257 : BitVec 32 := 0#32
  let c4_i32_258 : BitVec 32 := 4#32
  let v310 : BitVec 32 := Scalar.addi c0_i32_257 c4_i32_258
  let c1_i32_259 : BitVec 32 := 1#32
  ⟨c0_i32_257, v310, c1_i32_259⟩
def k0_off17 (k0_t5 : Fin k0_t5_loop.trips) : Fin 2 → Nat :=
  let c0_434 : Index := 0#32
  let c0_i32_257 : BitVec 32 := 0#32
  let c1_i32_259 : BitVec 32 := 1#32
  let arg11 : BitVec 32 := Scf.iv c0_i32_257 c1_i32_259 k0_t5
  let c128_i32 : BitVec 32 := 128#32
  let v452 : BitVec 32 := Scalar.muli arg11 c128_i32
  let v453 : Index := Scalar.indexCast v452
  ![0, v453.toNat]
def k0_off18 (d0 : Dev nD) (k0_t5 : Fin k0_t5_loop.trips) (c0_i32_437 : BitVec 32) : Fin 4 → Nat :=
  let c0_438 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_247 : BitVec 32 := 8#32
  let v298 : BitVec 32 := Scalar.addi v2 c8_i32_247
  let c2_i32_248 : BitVec 32 := 2#32
  let v299 : BitVec 32 := Scalar.subi v298 c2_i32_248
  let c8_i32_249 : BitVec 32 := 8#32
  let v300 : BitVec 32 := Scalar.remsi v299 c8_i32_249
  let c8_i32_435 : BitVec 32 := 8#32
  let v455 : BitVec 32 := Scalar.muli v300 c8_i32_435
  let c0_i32_257 : BitVec 32 := 0#32
  let c1_i32_259 : BitVec 32 := 1#32
  let arg11 : BitVec 32 := Scf.iv c0_i32_257 c1_i32_259 k0_t5
  let c2_i32_436 : BitVec 32 := 2#32
  let v456 : BitVec 32 := Scalar.muli arg11 c2_i32_436
  let v457 : BitVec 32 := Scalar.addi v455 v456
  let v458 : BitVec 32 := Scalar.addi v457 c0_i32_437
  let v460 : Index := Scalar.indexCast v458
  let c0_439 : Index := 0#32
  let c0_440 : Index := 0#32
  ![0, v460.toNat, 0, 0]
def k0_off19 (k0_t5 : Fin k0_t5_loop.trips) : Fin 2 → Nat :=
  let c512_462 : Index := 512#32
  let c0_i32_257 : BitVec 32 := 0#32
  let c1_i32_259 : BitVec 32 := 1#32
  let arg11 : BitVec 32 := Scf.iv c0_i32_257 c1_i32_259 k0_t5
  let c128_i32 : BitVec 32 := 128#32
  let v452 : BitVec 32 := Scalar.muli arg11 c128_i32
  let v506 : Index := Scalar.indexCast v452
  ![512, v506.toNat]
def k0_off20 (d0 : Dev nD) (k0_t5 : Fin k0_t5_loop.trips) (c0_i32_465 : BitVec 32) : Fin 4 → Nat :=
  let c1_466 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_247 : BitVec 32 := 8#32
  let v298 : BitVec 32 := Scalar.addi v2 c8_i32_247
  let c2_i32_248 : BitVec 32 := 2#32
  let v299 : BitVec 32 := Scalar.subi v298 c2_i32_248
  let c8_i32_249 : BitVec 32 := 8#32
  let v300 : BitVec 32 := Scalar.remsi v299 c8_i32_249
  let c8_i32_463 : BitVec 32 := 8#32
  let v508 : BitVec 32 := Scalar.muli v300 c8_i32_463
  let c0_i32_257 : BitVec 32 := 0#32
  let c1_i32_259 : BitVec 32 := 1#32
  let arg11 : BitVec 32 := Scf.iv c0_i32_257 c1_i32_259 k0_t5
  let c2_i32_464 : BitVec 32 := 2#32
  let v509 : BitVec 32 := Scalar.muli arg11 c2_i32_464
  let v510 : BitVec 32 := Scalar.addi v508 v509
  let v511 : BitVec 32 := Scalar.addi v510 c0_i32_465
  let v513 : Index := Scalar.indexCast v511
  let c0_467 : Index := 0#32
  let c0_468 : Index := 0#32
  ![1, v513.toNat, 0, 0]
@[reducible] def k0_t6_loop : Scf.Loop 32 :=
  let c0_i32_280 : BitVec 32 := 0#32
  let c4_i32_281 : BitVec 32 := 4#32
  let v331 : BitVec 32 := Scalar.addi c0_i32_280 c4_i32_281
  let c1_i32_282 : BitVec 32 := 1#32
  ⟨c0_i32_280, v331, c1_i32_282⟩
def k0_off21 (k0_t6 : Fin k0_t6_loop.trips) : Fin 2 → Nat :=
  let c0_434 : Index := 0#32
  let c0_i32_280 : BitVec 32 := 0#32
  let c1_i32_282 : BitVec 32 := 1#32
  let arg11 : BitVec 32 := Scf.iv c0_i32_280 c1_i32_282 k0_t6
  let c128_i32 : BitVec 32 := 128#32
  let v452 : BitVec 32 := Scalar.muli arg11 c128_i32
  let v453 : Index := Scalar.indexCast v452
  ![0, v453.toNat]
def k0_off22 (d0 : Dev nD) (k0_t6 : Fin k0_t6_loop.trips) (c0_i32_437 : BitVec 32) : Fin 4 → Nat :=
  let c0_438 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_271 : BitVec 32 := 2#32
  let v320 : BitVec 32 := Scalar.addi v2 c2_i32_271
  let c8_i32_272 : BitVec 32 := 8#32
  let v321 : BitVec 32 := Scalar.remsi v320 c8_i32_272
  let c8_i32_435 : BitVec 32 := 8#32
  let v455 : BitVec 32 := Scalar.muli v321 c8_i32_435
  let c0_i32_280 : BitVec 32 := 0#32
  let c1_i32_282 : BitVec 32 := 1#32
  let arg11 : BitVec 32 := Scf.iv c0_i32_280 c1_i32_282 k0_t6
  let c2_i32_436 : BitVec 32 := 2#32
  let v456 : BitVec 32 := Scalar.muli arg11 c2_i32_436
  let v457 : BitVec 32 := Scalar.addi v455 v456
  let v458 : BitVec 32 := Scalar.addi v457 c0_i32_437
  let v460 : Index := Scalar.indexCast v458
  let c0_439 : Index := 0#32
  let c0_440 : Index := 0#32
  ![0, v460.toNat, 0, 0]
def k0_off23 (k0_t6 : Fin k0_t6_loop.trips) : Fin 2 → Nat :=
  let c512_462 : Index := 512#32
  let c0_i32_280 : BitVec 32 := 0#32
  let c1_i32_282 : BitVec 32 := 1#32
  let arg11 : BitVec 32 := Scf.iv c0_i32_280 c1_i32_282 k0_t6
  let c128_i32 : BitVec 32 := 128#32
  let v452 : BitVec 32 := Scalar.muli arg11 c128_i32
  let v506 : Index := Scalar.indexCast v452
  ![512, v506.toNat]
def k0_off24 (d0 : Dev nD) (k0_t6 : Fin k0_t6_loop.trips) (c0_i32_465 : BitVec 32) : Fin 4 → Nat :=
  let c1_466 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_271 : BitVec 32 := 2#32
  let v320 : BitVec 32 := Scalar.addi v2 c2_i32_271
  let c8_i32_272 : BitVec 32 := 8#32
  let v321 : BitVec 32 := Scalar.remsi v320 c8_i32_272
  let c8_i32_463 : BitVec 32 := 8#32
  let v508 : BitVec 32 := Scalar.muli v321 c8_i32_463
  let c0_i32_280 : BitVec 32 := 0#32
  let c1_i32_282 : BitVec 32 := 1#32
  let arg11 : BitVec 32 := Scf.iv c0_i32_280 c1_i32_282 k0_t6
  let c2_i32_464 : BitVec 32 := 2#32
  let v509 : BitVec 32 := Scalar.muli arg11 c2_i32_464
  let v510 : BitVec 32 := Scalar.addi v508 v509
  let v511 : BitVec 32 := Scalar.addi v510 c0_i32_465
  let v513 : Index := Scalar.indexCast v511
  let c0_467 : Index := 0#32
  let c0_468 : Index := 0#32
  ![1, v513.toNat, 0, 0]
@[reducible] def k0_t7_loop : Scf.Loop 32 :=
  let c0_i32_324 : BitVec 32 := 0#32
  let c4_i32_325 : BitVec 32 := 4#32
  let v369 : BitVec 32 := Scalar.addi c0_i32_324 c4_i32_325
  let c1_i32_326 : BitVec 32 := 1#32
  ⟨c0_i32_324, v369, c1_i32_326⟩
def k0_off25 (k0_t7 : Fin k0_t7_loop.trips) : Fin 2 → Nat :=
  let c0_434 : Index := 0#32
  let c0_i32_324 : BitVec 32 := 0#32
  let c1_i32_326 : BitVec 32 := 1#32
  let arg11 : BitVec 32 := Scf.iv c0_i32_324 c1_i32_326 k0_t7
  let c128_i32 : BitVec 32 := 128#32
  let v452 : BitVec 32 := Scalar.muli arg11 c128_i32
  let v453 : Index := Scalar.indexCast v452
  ![0, v453.toNat]
def k0_off26 (d0 : Dev nD) (k0_t7 : Fin k0_t7_loop.trips) (c0_i32_437 : BitVec 32) : Fin 4 → Nat :=
  let c0_438 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_314 : BitVec 32 := 8#32
  let v357 : BitVec 32 := Scalar.addi v2 c8_i32_314
  let c3_i32_315 : BitVec 32 := 3#32
  let v358 : BitVec 32 := Scalar.subi v357 c3_i32_315
  let c8_i32_316 : BitVec 32 := 8#32
  let v359 : BitVec 32 := Scalar.remsi v358 c8_i32_316
  let c8_i32_435 : BitVec 32 := 8#32
  let v455 : BitVec 32 := Scalar.muli v359 c8_i32_435
  let c0_i32_324 : BitVec 32 := 0#32
  let c1_i32_326 : BitVec 32 := 1#32
  let arg11 : BitVec 32 := Scf.iv c0_i32_324 c1_i32_326 k0_t7
  let c2_i32_436 : BitVec 32 := 2#32
  let v456 : BitVec 32 := Scalar.muli arg11 c2_i32_436
  let v457 : BitVec 32 := Scalar.addi v455 v456
  let v458 : BitVec 32 := Scalar.addi v457 c0_i32_437
  let v460 : Index := Scalar.indexCast v458
  let c0_439 : Index := 0#32
  let c0_440 : Index := 0#32
  ![0, v460.toNat, 0, 0]
def k0_off27 (k0_t7 : Fin k0_t7_loop.trips) : Fin 2 → Nat :=
  let c512_462 : Index := 512#32
  let c0_i32_324 : BitVec 32 := 0#32
  let c1_i32_326 : BitVec 32 := 1#32
  let arg11 : BitVec 32 := Scf.iv c0_i32_324 c1_i32_326 k0_t7
  let c128_i32 : BitVec 32 := 128#32
  let v452 : BitVec 32 := Scalar.muli arg11 c128_i32
  let v506 : Index := Scalar.indexCast v452
  ![512, v506.toNat]
def k0_off28 (d0 : Dev nD) (k0_t7 : Fin k0_t7_loop.trips) (c0_i32_465 : BitVec 32) : Fin 4 → Nat :=
  let c1_466 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_314 : BitVec 32 := 8#32
  let v357 : BitVec 32 := Scalar.addi v2 c8_i32_314
  let c3_i32_315 : BitVec 32 := 3#32
  let v358 : BitVec 32 := Scalar.subi v357 c3_i32_315
  let c8_i32_316 : BitVec 32 := 8#32
  let v359 : BitVec 32 := Scalar.remsi v358 c8_i32_316
  let c8_i32_463 : BitVec 32 := 8#32
  let v508 : BitVec 32 := Scalar.muli v359 c8_i32_463
  let c0_i32_324 : BitVec 32 := 0#32
  let c1_i32_326 : BitVec 32 := 1#32
  let arg11 : BitVec 32 := Scf.iv c0_i32_324 c1_i32_326 k0_t7
  let c2_i32_464 : BitVec 32 := 2#32
  let v509 : BitVec 32 := Scalar.muli arg11 c2_i32_464
  let v510 : BitVec 32 := Scalar.addi v508 v509
  let v511 : BitVec 32 := Scalar.addi v510 c0_i32_465
  let v513 : Index := Scalar.indexCast v511
  let c0_467 : Index := 0#32
  let c0_468 : Index := 0#32
  ![1, v513.toNat, 0, 0]
@[reducible] def k0_t8_loop : Scf.Loop 32 :=
  let c0_i32_347 : BitVec 32 := 0#32
  let c4_i32_348 : BitVec 32 := 4#32
  let v390 : BitVec 32 := Scalar.addi c0_i32_347 c4_i32_348
  let c1_i32_349 : BitVec 32 := 1#32
  ⟨c0_i32_347, v390, c1_i32_349⟩
def k0_off29 (k0_t8 : Fin k0_t8_loop.trips) : Fin 2 → Nat :=
  let c0_434 : Index := 0#32
  let c0_i32_347 : BitVec 32 := 0#32
  let c1_i32_349 : BitVec 32 := 1#32
  let arg11 : BitVec 32 := Scf.iv c0_i32_347 c1_i32_349 k0_t8
  let c128_i32 : BitVec 32 := 128#32
  let v452 : BitVec 32 := Scalar.muli arg11 c128_i32
  let v453 : Index := Scalar.indexCast v452
  ![0, v453.toNat]
def k0_off30 (d0 : Dev nD) (k0_t8 : Fin k0_t8_loop.trips) (c0_i32_437 : BitVec 32) : Fin 4 → Nat :=
  let c0_438 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_338 : BitVec 32 := 3#32
  let v379 : BitVec 32 := Scalar.addi v2 c3_i32_338
  let c8_i32_339 : BitVec 32 := 8#32
  let v380 : BitVec 32 := Scalar.remsi v379 c8_i32_339
  let c8_i32_435 : BitVec 32 := 8#32
  let v455 : BitVec 32 := Scalar.muli v380 c8_i32_435
  let c0_i32_347 : BitVec 32 := 0#32
  let c1_i32_349 : BitVec 32 := 1#32
  let arg11 : BitVec 32 := Scf.iv c0_i32_347 c1_i32_349 k0_t8
  let c2_i32_436 : BitVec 32 := 2#32
  let v456 : BitVec 32 := Scalar.muli arg11 c2_i32_436
  let v457 : BitVec 32 := Scalar.addi v455 v456
  let v458 : BitVec 32 := Scalar.addi v457 c0_i32_437
  let v460 : Index := Scalar.indexCast v458
  let c0_439 : Index := 0#32
  let c0_440 : Index := 0#32
  ![0, v460.toNat, 0, 0]
def k0_off31 (k0_t8 : Fin k0_t8_loop.trips) : Fin 2 → Nat :=
  let c512_462 : Index := 512#32
  let c0_i32_347 : BitVec 32 := 0#32
  let c1_i32_349 : BitVec 32 := 1#32
  let arg11 : BitVec 32 := Scf.iv c0_i32_347 c1_i32_349 k0_t8
  let c128_i32 : BitVec 32 := 128#32
  let v452 : BitVec 32 := Scalar.muli arg11 c128_i32
  let v506 : Index := Scalar.indexCast v452
  ![512, v506.toNat]
def k0_off32 (d0 : Dev nD) (k0_t8 : Fin k0_t8_loop.trips) (c0_i32_465 : BitVec 32) : Fin 4 → Nat :=
  let c1_466 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_338 : BitVec 32 := 3#32
  let v379 : BitVec 32 := Scalar.addi v2 c3_i32_338
  let c8_i32_339 : BitVec 32 := 8#32
  let v380 : BitVec 32 := Scalar.remsi v379 c8_i32_339
  let c8_i32_463 : BitVec 32 := 8#32
  let v508 : BitVec 32 := Scalar.muli v380 c8_i32_463
  let c0_i32_347 : BitVec 32 := 0#32
  let c1_i32_349 : BitVec 32 := 1#32
  let arg11 : BitVec 32 := Scf.iv c0_i32_347 c1_i32_349 k0_t8
  let c2_i32_464 : BitVec 32 := 2#32
  let v509 : BitVec 32 := Scalar.muli arg11 c2_i32_464
  let v510 : BitVec 32 := Scalar.addi v508 v509
  let v511 : BitVec 32 := Scalar.addi v510 c0_i32_465
  let v513 : Index := Scalar.indexCast v511
  let c0_467 : Index := 0#32
  let c0_468 : Index := 0#32
  ![1, v513.toNat, 0, 0]
abbrev stage0_0 : Fin 1 → Memref sig .tc .vmem S1024x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x64x64x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x64x64x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x512x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x4096x768 : Shape := ⟨3, ![2, 4096, 768]⟩
abbrev S768x4096 : Shape := ⟨2, ![768, 4096]⟩
abbrev S2x512x64x64 : Shape := ⟨4, ![2, 512, 64, 64]⟩
abbrev S4096x768 : Shape := ⟨2, ![4096, 768]⟩
abbrev S2x4096x4096 : Shape := ⟨3, ![2, 4096, 4096]⟩
abbrev S2x4096x64x64 : Shape := ⟨4, ![2, 4096, 64, 64]⟩
abbrev S4096 : Shape := ⟨1, ![4096]⟩
abbrev S_ : Shape := ⟨0, ![]⟩
abbrev S4096x1 : Shape := ⟨2, ![4096, 1]⟩
abbrev S512 : Shape := ⟨1, ![512]⟩
abbrev S1x512 : Shape := ⟨2, ![1, 512]⟩
abbrev S4096x512 : Shape := ⟨2, ![4096, 512]⟩
abbrev S2x64x4096x512 : Shape := ⟨4, ![2, 64, 4096, 512]⟩
abbrev S1x1x4096x512 : Shape := ⟨4, ![1, 1, 4096, 512]⟩
abbrev S2x64x4096 : Shape := ⟨3, ![2, 64, 4096]⟩
abbrev S2x64x4096x1 : Shape := ⟨4, ![2, 64, 4096, 1]⟩
abbrev S1x1x4096x1 : Shape := ⟨4, ![1, 1, 4096, 1]⟩
abbrev S2x64x64x4096 : Shape := ⟨4, ![2, 64, 64, 4096]⟩

abbrev nBuf : Space → Nat
  | .hbm => 143
  | .vmem => 0
  | .smem => 0
  | _ => 0

abbrev hbmTy0_0 (i : Nat) : BufTy := match i % 128 with
  | 0 => ⟨S2x4096x768, .bf16⟩
  | 1 => ⟨S768x4096, .bf16⟩
  | 2 => ⟨S2x512x64x64, .bf16⟩
  | 3 => ⟨S2x512x64x64, .bf16⟩
  | 4 => ⟨S4096x768, .bf16⟩
  | 5 => ⟨S2x4096x768, .f32⟩
  | 6 => ⟨S768x4096, .f32⟩
  | 7 => ⟨S2x512x64x64, .f32⟩
  | 8 => ⟨S2x512x64x64, .f32⟩
  | 9 => ⟨S4096x768, .f32⟩
  | 10 => ⟨S2x4096x4096, .f32⟩
  | 11 => ⟨S2x4096x64x64, .f32⟩
  | 12 => ⟨S4096, .i32⟩
  | 13 => ⟨S_, .i32⟩
  | 14 => ⟨S_, .i32⟩
  | 15 => ⟨S4096, .i32⟩
  | 16 => ⟨S4096, .i32⟩
  | 17 => ⟨S4096, .i32⟩
  | 18 => ⟨S_, .i32⟩
  | 19 => ⟨S4096, .i32⟩
  | 20 => ⟨S4096, .i1⟩
  | 21 => ⟨S4096, .i32⟩
  | 22 => ⟨S4096, .i32⟩
  | 23 => ⟨S_, .i32⟩
  | 24 => ⟨S4096, .i32⟩
  | 25 => ⟨S4096, .i1⟩
  | 26 => ⟨S4096, .i1⟩
  | 27 => ⟨S_, .i32⟩
  | 28 => ⟨S4096, .i32⟩
  | 29 => ⟨S4096, .i32⟩
  | 30 => ⟨S4096, .i32⟩
  | 31 => ⟨S4096x1, .i32⟩
  | 32 => ⟨S512, .i32⟩
  | 33 => ⟨S_, .i32⟩
  | 34 => ⟨S_, .i32⟩
  | 35 => ⟨S512, .i32⟩
  | 36 => ⟨S512, .i32⟩
  | 37 => ⟨S512, .i32⟩
  | 38 => ⟨S_, .i32⟩
  | 39 => ⟨S512, .i32⟩
  | 40 => ⟨S512, .i1⟩
  | 41 => ⟨S512, .i32⟩
  | 42 => ⟨S512, .i32⟩
  | 43 => ⟨S_, .i32⟩
  | 44 => ⟨S512, .i32⟩
  | 45 => ⟨S512, .i1⟩
  | 46 => ⟨S512, .i1⟩
  | 47 => ⟨S_, .i32⟩
  | 48 => ⟨S512, .i32⟩
  | 49 => ⟨S512, .i32⟩
  | 50 => ⟨S512, .i32⟩
  | 51 => ⟨S1x512, .i32⟩
  | 52 => ⟨S4096x512, .i32⟩
  | 53 => ⟨S4096x512, .i32⟩
  | 54 => ⟨S4096x512, .i1⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S1x512, .i32⟩
  | 62 => ⟨S1x512, .i32⟩
  | 63 => ⟨S_, .i32⟩
  | 64 => ⟨S1x512, .i32⟩
  | 65 => ⟨S1x512, .i1⟩
  | 66 => ⟨S_, .i32⟩
  | 67 => ⟨S1x512, .i32⟩
  | 68 => ⟨S1x512, .i1⟩
  | 69 => ⟨S_, .i32⟩
  | 70 => ⟨S_, .i1⟩
  | 71 => ⟨S1x512, .i1⟩
  | 72 => ⟨S1x512, .i1⟩
  | 73 => ⟨S1x512, .i1⟩
  | 74 => ⟨S1x512, .i32⟩
  | 75 => ⟨S1x512, .i32⟩
  | 76 => ⟨S1x512, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S4096x1, .i32⟩
  | 84 => ⟨S4096x1, .i32⟩
  | 85 => ⟨S_, .i32⟩
  | 86 => ⟨S4096x1, .i32⟩
  | 87 => ⟨S4096x1, .i1⟩
  | 88 => ⟨S_, .i32⟩
  | 89 => ⟨S4096x1, .i32⟩
  | 90 => ⟨S4096x1, .i1⟩
  | 91 => ⟨S_, .i32⟩
  | 92 => ⟨S_, .i1⟩
  | 93 => ⟨S4096x1, .i1⟩
  | 94 => ⟨S4096x1, .i1⟩
  | 95 => ⟨S4096x1, .i1⟩
  | 96 => ⟨S4096x1, .i32⟩
  | 97 => ⟨S4096x1, .i32⟩
  | 98 => ⟨S4096x1, .i32⟩
  | 99 => ⟨S4096x512, .i32⟩
  | 100 => ⟨S4096x512, .i32⟩
  | 101 => ⟨S4096x512, .i1⟩
  | 102 => ⟨S4096x512, .i1⟩
  | 103 => ⟨S2x64x4096x512, .f32⟩
  | 104 => ⟨S_, .f32⟩
  | 105 => ⟨S2x64x4096x512, .f32⟩
  | 106 => ⟨S2x64x4096x512, .f32⟩
  | 107 => ⟨S1x1x4096x512, .i1⟩
  | 108 => ⟨S_, .f32⟩
  | 109 => ⟨S_, .f32⟩
  | 110 => ⟨S2x64x4096x512, .i1⟩
  | 111 => ⟨S2x64x4096x512, .f32⟩
  | 112 => ⟨S2x64x4096x512, .f32⟩
  | 113 => ⟨S_, .f32⟩
  | 114 => ⟨S2x64x4096, .f32⟩
  | 115 => ⟨S2x64x4096x1, .f32⟩
  | 116 => ⟨S2x64x4096x512, .f32⟩
  | 117 => ⟨S2x64x4096x512, .f32⟩
  | 118 => ⟨S2x64x4096x512, .f32⟩
  | 119 => ⟨S_, .i1⟩
  | 120 => ⟨S4096, .i1⟩
  | 121 => ⟨S1x1x4096x1, .i1⟩
  | 122 => ⟨S_, .f32⟩
  | 123 => ⟨S2x64x4096, .f32⟩
  | 124 => ⟨S2x64x4096x1, .f32⟩
  | 125 => ⟨S_, .f32⟩
  | 126 => ⟨S_, .f32⟩
  | 127 => ⟨S2x64x4096x1, .i1⟩
  | _ => ⟨S2x4096x768, .bf16⟩

abbrev hbmTy0_1 (i : Nat) : BufTy := match i % 128 with
  | 0 => ⟨S2x64x4096x1, .f32⟩
  | 1 => ⟨S2x64x4096x1, .f32⟩
  | 2 => ⟨S2x64x4096x512, .f32⟩
  | 3 => ⟨S2x64x4096x512, .f32⟩
  | 4 => ⟨S1x1x4096x1, .i1⟩
  | 5 => ⟨S_, .f32⟩
  | 6 => ⟨S_, .f32⟩
  | 7 => ⟨S2x64x4096x512, .i1⟩
  | 8 => ⟨S2x64x4096x512, .f32⟩
  | 9 => ⟨S2x64x4096x512, .f32⟩
  | 10 => ⟨S2x64x64x4096, .f32⟩
  | 11 => ⟨S2x4096x64x64, .f32⟩
  | 12 => ⟨S2x4096x4096, .f32⟩
  | 13 => ⟨S2x4096x768, .f32⟩
  | 14 => ⟨S2x4096x768, .bf16⟩
  | _ => ⟨S2x4096x768, .bf16⟩

abbrev hbmTy (i : Nat) : BufTy := match i / 128 with
  | 0 => hbmTy0_0 i
  | 1 => hbmTy0_1 i
  | _ => ⟨S2x4096x768, .bf16⟩

abbrev bufTy : (tb : Table) → Fin (tcTables nBuf tb) → BufTy
  | .hbm, ⟨i, _⟩ => hbmTy i
  | _, _ => ⟨S2x4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_c_1 : Ref sig .tc := ⟨.hbm, 55, rfl⟩
abbrev main_call2_v0 : Ref sig .tc := ⟨.hbm, 56, rfl⟩
abbrev main_call2_c : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_c_1 : Ref sig .tc := ⟨.hbm, 63, rfl⟩
abbrev main_call2_v5 : Ref sig .tc := ⟨.hbm, 64, rfl⟩
abbrev main_call2_v6 : Ref sig .tc := ⟨.hbm, 65, rfl⟩
abbrev main_call2_c_2 : Ref sig .tc := ⟨.hbm, 66, rfl⟩
abbrev main_call2_v7 : Ref sig .tc := ⟨.hbm, 67, rfl⟩
abbrev main_call2_v8 : Ref sig .tc := ⟨.hbm, 68, rfl⟩
abbrev main_call2_c_3 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_v16 : Ref sig .tc := ⟨.hbm, 76, rfl⟩
abbrev main_c_2 : Ref sig .tc := ⟨.hbm, 77, rfl⟩
abbrev main_call3_v0 : Ref sig .tc := ⟨.hbm, 78, rfl⟩
abbrev main_call3_c : Ref sig .tc := ⟨.hbm, 79, rfl⟩
abbrev main_call3_v1 : Ref sig .tc := ⟨.hbm, 80, rfl⟩
abbrev main_call3_c_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_c_1 : Ref sig .tc := ⟨.hbm, 85, rfl⟩
abbrev main_call3_v5 : Ref sig .tc := ⟨.hbm, 86, rfl⟩
abbrev main_call3_v6 : Ref sig .tc := ⟨.hbm, 87, rfl⟩
abbrev main_call3_c_2 : Ref sig .tc := ⟨.hbm, 88, rfl⟩
abbrev main_call3_v7 : Ref sig .tc := ⟨.hbm, 89, rfl⟩
abbrev main_call3_v8 : Ref sig .tc := ⟨.hbm, 90, rfl⟩
abbrev main_call3_c_3 : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_call3_v12 : Ref sig .tc := ⟨.hbm, 95, rfl⟩
abbrev main_call3_v13 : Ref sig .tc := ⟨.hbm, 96, rfl⟩
abbrev main_call3_v14 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_v21 : Ref sig .tc := ⟨.hbm, 102, rfl⟩
abbrev main_v22 : Ref sig .tc := ⟨.hbm, 103, rfl⟩
abbrev main_cst : Ref sig .tc := ⟨.hbm, 104, rfl⟩
abbrev main_v23 : Ref sig .tc := ⟨.hbm, 105, rfl⟩
abbrev main_v24 : Ref sig .tc := ⟨.hbm, 106, rfl⟩
abbrev main_v25 : Ref sig .tc := ⟨.hbm, 107, rfl⟩
abbrev main_cst_3 : Ref sig .tc := ⟨.hbm, 108, rfl⟩
abbrev main_call4_v0 : Ref sig .tc := ⟨.hbm, 109, rfl⟩
abbrev main_call4_v1 : Ref sig .tc := ⟨.hbm, 110, rfl⟩
abbrev main_call4_v2 : Ref sig .tc := ⟨.hbm, 111, rfl⟩
abbrev main_v26 : Ref sig .tc := ⟨.hbm, 112, rfl⟩
abbrev main_cst_4 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_c_5 : Ref sig .tc := ⟨.hbm, 119, rfl⟩
abbrev main_v32 : Ref sig .tc := ⟨.hbm, 120, rfl⟩
abbrev main_v33 : Ref sig .tc := ⟨.hbm, 121, rfl⟩
abbrev main_cst_6 : Ref sig .tc := ⟨.hbm, 122, rfl⟩
abbrev main_v34 : Ref sig .tc := ⟨.hbm, 123, rfl⟩
abbrev main_v35 : Ref sig .tc := ⟨.hbm, 124, rfl⟩
abbrev main_cst_7 : Ref sig .tc := ⟨.hbm, 125, rfl⟩
abbrev main_call5_v0 : Ref sig .tc := ⟨.hbm, 126, rfl⟩
abbrev main_call5_v1 : Ref sig .tc := ⟨.hbm, 127, rfl⟩
abbrev main_call5_v2 : Ref sig .tc := ⟨.hbm, 128, rfl⟩
abbrev main_v36 : Ref sig .tc := ⟨.hbm, 129, rfl⟩
abbrev main_v37 : Ref sig .tc := ⟨.hbm, 130, rfl⟩
abbrev main_v38 : Ref sig .tc := ⟨.hbm, 131, rfl⟩
abbrev main_v39 : Ref sig .tc := ⟨.hbm, 132, rfl⟩
abbrev main_cst_8 : Ref sig .tc := ⟨.hbm, 133, rfl⟩
abbrev main_call6_v0 : Ref sig .tc := ⟨.hbm, 134, rfl⟩
abbrev main_call6_v1 : Ref sig .tc := ⟨.hbm, 135, rfl⟩
abbrev main_call6_v2 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩
abbrev main_v45 : Ref sig .tc := ⟨.hbm, 142, rfl⟩

abbrev nD : Nat := 1
abbrev τ : Topo := Topo.v7x

variable {F : FTy → Type} [FloatOps F]
-- ==== Proof.KernelIdeal.Proto.lean ====
/-
The protocol of the broadcast of the packed weights over eight devices: the slots of the receiving buffer and what they come
to hold, the schedule of the sixteen cells of a device (its barrier, seven sends, eight receives), what each device owes, the levels.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Pipeline.ValueKit.Geometry
public import Idealize.ShloMosaic.Lib.Rounds
public import Idealize.ShloMosaic.Lib.ValueLayout
public import Idealize.ShloMosaic.Lib.Tactic

@[expose] public section

noncomputable section

namespace Cert.KernelIdeal.Talk

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring: who sends what to whom -/

/-- Device `c` shifted by `n`. -/
def shift (n : ℕ) (c : Dev nD) : Dev nD := ⟨(c.val + n) % 8, Nat.mod_lt _ (by decide)⟩

/-- Send `s` goes to the device `off s` further on. -/
def off : Fin 7 → ℕ := ![1, 7, 4, 1, 7, 1, 7]
/-- The slot send `s` reads; it writes slot `s + 1` of its target. -/
def srcSlot : Fin 7 → Fin 8 := ![0, 0, 0, 1, 2, 4, 5]
/-- Slot `k` of device `c` comes to hold the weights of the device `soff k` further on. -/
def soff : Fin 8 → ℕ := ![0, 7, 1, 4, 6, 2, 5, 3]
/-- Which of the three barrier signals hands over the slot send `s` writes. -/
def dir : Fin 7 → Fin 3 := ![0, 1, 2, 0, 1, 0, 1]
/-- Duty `j` of a barrier is paid by the device `boff j` further on. -/
def boff : Fin 3 → ℕ := ![1, 7, 4]

abbrev peer (s : Fin 7) (c : Dev nD) : Dev nD := shift (off s) c
abbrev srcDev (k : Fin 8) (c : Dev nD) : Dev nD := shift (soff k) c

theorem shift_shift (a b : ℕ) (c : Dev nD) : shift a (shift b c) = shift (b + a) c := by
  apply Fin.ext; simp only [shift]; omega
theorem shift_eq (a b : ℕ) (h : a % 8 = b % 8) (c : Dev nD) : shift a c = shift b c := by
  apply Fin.ext; simp only [shift]; omega
theorem shift_zero (c : Dev nD) : shift 0 c = c := by
  have := c.isLt; apply Fin.ext; simp only [shift]; have h8 : nD = 8 := rfl; omega
theorem shift_inv (a b : ℕ) (h : (a + b) % 8 = 0) (c : Dev nD) : shift a (shift b c) = c := by
  rw [shift_shift, shift_eq _ 0 (by omega), shift_zero]

theorem srcDev_peer (s : Fin 7) (c : Dev nD) : srcDev s.succ (peer s c) = srcDev (srcSlot s) c := by
  show shift _ (shift _ c) = _
  rw [shift_shift]; exact shift_eq _ _ (by revert s; decide) c
theorem peer_dir (s : Fin 7) (c : Dev nD) : peer s c = shift (boff (dir s)) c :=
  shift_eq _ _ (by revert s; decide) c
theorem srcDev_zero (c : Dev nD) : srcDev 0 c = c := shift_zero c

/-! ## The cells -/

def sendSem (s : Fin 7) : DmaSem sig := ⟨5 + s.val, by have := s.isLt; show 5 + s.val < 20; omega⟩
def recvSem (k : Fin 8) : DmaSem sig := ⟨12 + k.val, by have := k.isLt; show 12 + k.val < 20; omega⟩

abbrev barCell (c : Dev nD) : GSem nD τ sig := ((c : Thread nD τ), .reg barrier0)
abbrev sendCell (s : Fin 7) (c : Dev nD) : GSem nD τ sig := ((c : Thread nD τ), .dma (sendSem s))
abbrev recvCell (k : Fin 8) (c : Dev nD) : GSem nD τ sig := ((c : Thread nD τ), .dma (recvSem k))

/-! ## The slots -/

theorem slot_inb (k : Fin 8) : ∀ a, (![k.val, 0, 0] : Fin 3 → ℕ) a + S1x768x1024.size a ≤ S8x768x1024.size a := by
  revert k; decide

/-- Slot `k` of the buffer of packed weights. -/
abbrev slotM (k : Fin 8) : Memref sig .tc .vmem S768x1024 .bf16 :=
  ((Memref.whole cc0_scratch0).slice (Rect.unit (s := S8x768x1024) ![k.val, 0, 0] S1x768x1024.size (slot_inb k)) (fun _ => rfl)).squeeze S768x1024
    squeezes_S1x768x1024_S768x1024

theorem slotM_emb (k : Fin 8) (x : Fin 768) (y : Fin 1024) : (slotM k).view.emb (ix2 x y) = (ix3 k x y : S8x768x1024.Idx) := by
  refine (congrArg (((View.whole cc0_scratch0).slice (Rect.unit (s := S8x768x1024) ![k.val, 0, 0] S1x768x1024.size (slot_inb k))).emb)
    (reshapeEquiv_ix2_1ab (by decide) x y)).trans ?_
  funext a
  apply Fin.ext
  refine (ValueKit.view_emb_slice_whole_unit_val cc0_scratch0 _ _ _ _ a).trans ?_
  fin_cases a
  · show k.val + 0 = k.val; omega
  · show 0 + x.val = x.val; omega
  · show 0 + y.val = y.val; omega

theorem mem_slot (k : Fin 8) (i : S8x768x1024.Idx) : i ∈ (slotM k).view.set ↔ i 0 = k := by
  refine Finset.mem_map.trans ?_
  constructor
  · rintro ⟨j, -, rfl⟩
    exact congrFun ((congrArg (slotM k).view.emb (eq_ix2 j)).trans (slotM_emb k (j 0) (j 1))) 0
  · rintro rfl
    exact ⟨ix2 (i 1) (i 2), Finset.mem_univ _, (slotM_emb (i 0) (i 1) (i 2)).trans (eq_ix3 i).symm⟩

/-- The transfer credit of a slot. -/
abbrev N : ℕ := (slotM 0).view.dmaCredit
theorem N_pos : 0 < N := View.dmaCredit_pos _ (by decide)

/-! ## What the slots come to hold -/

variable (PK : Dev nD → FVec F S768x1024 .bf16)

/-- The buffer of packed weights of device `c` when everything has arrived. -/
def ring (c : Dev nD) : Buf (Elt F) ((c : Thread nD τ).loc cc0_scratch0) := fun i : S8x768x1024.Idx => PK (srcDev (i 0) c) (ix2 (i 1) (i 2))

def slotPts (c : Dev nD) (k : Fin 8) (q : PosShare TreeShare) (f : Buf (Elt F) ((c : Thread nD τ).loc cc0_scratch0)) : sProp 𝕄 :=
  (slotM k).view.loc (c : Thread nD τ) ↦[(slotM k).view.set]{q} f

/-- What send `s` of device `c` writes is what the slot is to hold. -/
theorem landed (s : Fin 7) (c : Dev nD) (fd : Buf (Elt F) ((peer s c : Thread nD τ).loc cc0_scratch0)) (i : S8x768x1024.Idx)
    (hi : i ∈ (slotM s.succ).view.set) :
    (slotM s.succ).view.write (Elt F) fd ((slotM (srcSlot s)).view.read (Elt F) (ring PK c)) Finset.univ i = ring PK (peer s c) i := by
  have h0 := (mem_slot _ i).mp hi
  obtain ⟨x, y, rfl⟩ : ∃ (x : Fin 768) (y : Fin 1024), i = (slotM s.succ).view.emb (ix2 x y) :=
    ⟨i 1, i 2, (eq_ix3 i).trans ((congrArg (fun k => (ix3 k (i 1) (i 2) : S8x768x1024.Idx)) h0).trans (slotM_emb s.succ (i 1) (i 2)).symm)⟩
  refine (View.write_emb_of_mem _ _ (Finset.mem_univ _)).trans ?_
  show ring PK c ((slotM (srcSlot s)).view.emb (ix2 x y)) = ring PK (peer s c) ((slotM s.succ).view.emb (ix2 x y))
  refine (congrArg (ring PK c) (slotM_emb (srcSlot s) x y)).trans (Eq.trans ?_ (congrArg (ring PK (peer s c)) (slotM_emb s.succ x y)).symm)
  exact congrArg (fun d => PK d (ix2 x y)) (srcDev_peer s c).symm

/-! ## The schedule -/

/-- What the signal of device `peer s c` hands to device `c` so that it may send `s`: the slot, and that its receive cell is open. -/
def give (s : Fin 7) (c : Dev nD) : sProp 𝕄 :=
  iprop((∃ f, slotPts (peer s c) s.succ fullShare f) ∗ reached ER (recvCell s.succ (peer s c)) 0)

def barPay (j : Fin 3) (c : Dev nD) : sProp 𝕄 := bigSep (Finset.univ.filter fun s => dir s = j) fun s => give s c

/-- The part of a source slot lent to a send. -/
def lent : Fin 7 → PosShare TreeShare :=
  ![fullShare.left, fullShare.right.left, fullShare.right.right.left, fullShare.left, fullShare.left, fullShare.left, fullShare.left]

def sendPay (s : Fin 7) (c : Dev nD) : sProp 𝕄 := slotPts c (srcSlot s) (lent s) (ring PK c)
def recvPay (k : Fin 8) (c : Dev nD) : sProp 𝕄 := slotPts c k fullShare (ring PK c)

def dutiesOf : SemLoc sig → Finset (Fin 3)
  | .reg _ => Finset.univ
  | .dma s => if 5 ≤ s.val ∧ s.val ≠ 12 then {0} else ∅

def payOf (c : Dev nD) (d : Fin 3) : SemLoc sig → sProp 𝕄
  | .reg _ => barPay d c
  | .dma s => if h : 5 ≤ s.val ∧ s.val < 12 then sendPay PK ⟨s.val - 5, by omega⟩ c
      else if h' : 12 ≤ s.val then recvPay PK ⟨s.val - 12, by have h20 : s.val < 20 := s.isLt; omega⟩ c else iprop(emp)

def amountOf : SemLoc sig → ℕ
  | .reg _ => 1
  | .dma _ => N

def sched : Rounds.Schedule (GSem nD τ sig) (Fin 3) 𝕄 where
  duties g r := if r = 0 ∧ g.1.2 = .tc then dutiesOf g.2 else ∅
  unitless _ := False
  amount g _ _ := amountOf g.2
  payload g _ d := payOf PK g.1.1 d g.2
  amount_pos g _ _ _ := by
    rcases g with ⟨_, sm⟩
    cases sm
    · exact Nat.one_pos
    · exact N_pos

instance payOf_storable (c : Dev nD) (d : Fin 3) (sm : SemLoc sig) : BI.Storable (upEmb : UEmb _ 𝕄) (payOf PK c d sm) := by
  cases sm
  · dsimp only [payOf]; unfold barPay give slotPts; infer_instance
  · dsimp only [payOf]; unfold sendPay recvPay slotPts
    split
    · infer_instance
    · split <;> infer_instance

instance sched_storable (g : GSem nD τ sig) (r : ℕ) (d : Fin 3) : BI.Storable (upEmb : UEmb _ 𝕄) ((sched PK).payload g r d) :=
  payOf_storable PK g.1.1 d g.2

section Sched

variable (c : Dev nD)

theorem duties_bar : (sched PK).duties (barCell c) 0 = Finset.univ := by dsimp only [sched]; exact if_pos ⟨rfl, rfl⟩
theorem duties_send (s : Fin 7) : (sched PK).duties (sendCell s c) 0 = {0} := by
  dsimp only [sched]; refine (if_pos ⟨rfl, rfl⟩).trans ?_
  dsimp only [dutiesOf]; refine if_pos ⟨Nat.le_add_right _ _, ?_⟩
  have := s.isLt; show 5 + s.val ≠ 12; omega
theorem duties_recv (s : Fin 7) : (sched PK).duties (recvCell s.succ c) 0 = {0} := by
  dsimp only [sched]; refine (if_pos ⟨rfl, rfl⟩).trans ?_
  dsimp only [dutiesOf]; refine if_pos ⟨?_, ?_⟩
  · show 5 ≤ 12 + (s.val + 1); omega
  · show 12 + (s.val + 1) ≠ 12; omega
theorem duties_recv0 : (sched PK).duties (recvCell 0 c) 0 = ∅ := by
  dsimp only [sched]; refine (if_pos ⟨rfl, rfl⟩).trans ?_
  dsimp only [dutiesOf]; exact if_neg fun h => h.2 rfl
theorem duties_later (g : GSem nD τ sig) : ∀ r, 1 ≤ r → (sched PK).duties g r = ∅ :=
  fun r hr => by dsimp only [sched]; exact if_neg fun h => by omega

theorem amount_bar (j : Fin 3) : (sched PK).amount (barCell c) 0 j = 1 := rfl
theorem amount_send (s : Fin 7) (j : Fin 3) : (sched PK).amount (sendCell s c) 0 j = N := rfl
theorem amount_recv (k : Fin 8) (j : Fin 3) : (sched PK).amount (recvCell k c) 0 j = N := rfl

theorem expect_bar : (sched PK).expect (barCell c) 0 = 3 := by
  unfold Schedule.expect Schedule.amountOf
  rw [duties_bar, Finset.sum_congr rfl fun j _ => amount_bar PK c j]
  rfl
theorem expect_send (s : Fin 7) : (sched PK).expect (sendCell s c) 0 = N := by
  unfold Schedule.expect Schedule.amountOf; rw [duties_send, Finset.sum_singleton, amount_send]
theorem expect_recv (s : Fin 7) : (sched PK).expect (recvCell s.succ c) 0 = N := by
  unfold Schedule.expect Schedule.amountOf; rw [duties_recv, Finset.sum_singleton, amount_recv]

theorem payload_bar (j : Fin 3) : (sched PK).payload (barCell c) 0 j = barPay j c := rfl
theorem payload_send (s : Fin 7) (j : Fin 3) : (sched PK).payload (sendCell s c) 0 j = sendPay PK s c := by
  have hs := s.isLt
  dsimp only [sched, payOf]; refine (dif_pos (show 5 ≤ 5 + s.val ∧ 5 + s.val < 12 by omega)).trans ?_
  exact congrArg (fun s => sendPay PK s c) (Fin.ext (by show 5 + s.val - 5 = s.val; omega))
theorem payload_recv (k : Fin 8) (j : Fin 3) : (sched PK).payload (recvCell k c) 0 j = recvPay PK k c := by
  dsimp only [sched, payOf]; refine (dif_neg (show ¬(5 ≤ 12 + k.val ∧ 12 + k.val < 12) by omega)).trans ((dif_pos (show 12 ≤ 12 + k.val by omega)).trans ?_)
  exact congrArg (fun k => recvPay PK k c) (Fin.ext (by show 12 + k.val - 12 = k.val; omega))

theorem rest_bar : bigSep ((sched PK).duties (barCell c) 0 \ ∅) (fun j => (sched PK).payload (barCell c) 0 j) = bigSep Finset.univ fun s => give (F := F) s c := by
  rw [Finset.sdiff_empty, duties_bar]
  rw [Idealize.SL.BI.bigSep_fiberwise Finset.univ dir, show Finset.univ.image dir = Finset.univ from by decide]
  exact bigSep_congr fun j _ => payload_bar PK c j
theorem rest_send (s : Fin 7) : bigSep ((sched PK).duties (sendCell s c) 0 \ ∅) (fun j => (sched PK).payload (sendCell s c) 0 j) = sendPay PK s c := by
  rw [Finset.sdiff_empty, duties_send, bigSep_singleton, payload_send]
theorem rest_recv (s : Fin 7) : bigSep ((sched PK).duties (recvCell s.succ c) 0 \ ∅) (fun j => (sched PK).payload (recvCell s.succ c) 0 j) = recvPay PK s.succ c := by
  rw [Finset.sdiff_empty, duties_recv, bigSep_singleton, payload_recv]

end Sched

/-! ## What a device owes; the levels -/

/-- The receive credit of the last `n` sends. -/
def owedFrom (c : Dev nD) : ℕ → CellTallies nD τ sig Unit
  | 0 => 0
  | n + 1 => owedFrom c n + tallyAt (recvCell (Fin.rev (Fin.ofNat 7 n)).succ (peer (Fin.rev (Fin.ofNat 7 n)) c)) () N

/-- At launch: every send, and a unit to each of three barriers. -/
def O₀ (c : Dev nD) : CellTallies nD τ sig Unit :=
  owedFrom c 7 + tallyAt (barCell (shift 4 c)) () 1 + tallyAt (barCell (shift 1 c)) () 1 + tallyAt (barCell (shift 7 c)) () 1

def L (g : GSem nD τ sig) : Finset Unit := if g.1.2 = .tc then {()} else ∅
/-- Barriers at 1, receive `k` at `1 + k`, the rest at 0. -/
def lvOf : SemLoc sig → ℕ
  | .reg _ => 1
  | .dma s => s.val - 11
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl
theorem mem_L (c : Dev nD) (sm : SemLoc sig) (u : Unit) : u ∈ L ((c : Thread nD τ), sm) := by rw [L_tc]; exact Finset.mem_singleton_self _

theorem tallyAt_pos {g₀ g : GSem nD τ sig} {n : ℕ} {u : Unit} (h : 0 < (tallyAt g₀ () n : CellTallies nD τ sig Unit) g u) : g = g₀ := by
  rw [tallyAt_apply] at h
  split at h
  · next hg => exact hg.1
  · exact absurd h (Nat.lt_irrefl 0)

theorem owedFrom_pos (c : Dev nD) {g : GSem nD τ sig} {u : Unit} : ∀ n, n ≤ 7 → 0 < owedFrom c n g u →
    ∃ s : Fin 7, 7 ≤ s.val + n ∧ g = recvCell s.succ (peer s c)
  | 0, _, h => absurd h (Nat.lt_irrefl 0)
  | n + 1, hn, h => by
    rw [owedFrom, Pi.add_apply, Finsupp.add_apply] at h
    rcases Nat.add_pos_iff_pos_or_pos.mp h with h | h
    · obtain ⟨s, hs, e⟩ := owedFrom_pos c n (by omega) h
      exact ⟨s, by omega, e⟩
    · refine ⟨_, ?_, tallyAt_pos h⟩
      rw [Fin.val_rev, Fin.val_ofNat, Nat.mod_eq_of_lt (by omega)]; omega

theorem mayWait_of (c : Dev nD) (sm : SemLoc sig) (n : ℕ) (hn : n ≤ 7) (hlt : lvOf sm < 9 - n) :
    (levAts L lv : sProp 𝕄) ⊢ MayWait (c : Thread nD τ) sm () (owedFrom c n) :=
  MayOwe.of_cut (L := L) (lev := lv) (lvOf sm) (fun p hp => by rw [Finset.mem_singleton.mp hp]; exact mem_L _ _ _)
    (fun g u hg => by obtain ⟨s, -, rfl⟩ := owedFrom_pos c n hn hg; exact mem_L _ _ _)
    (fun p hp => by rw [Finset.mem_singleton.mp hp]; exact le_rfl)
    (fun g u hg => by
      obtain ⟨s, hs, rfl⟩ := owedFrom_pos c n hn hg
      show lvOf sm < 12 + (s.val + 1) - 11
      omega)

theorem O₀_pos {c : Dev nD} {g : GSem nD τ sig} {u : Unit} (h : 0 < O₀ c g u) : u ∈ L g ∧ 0 < lv g u := by
  unfold O₀ at h
  simp only [Pi.add_apply, Finsupp.add_apply] at h
  have hb (d : Dev nD) (h : 0 < (tallyAt (barCell d) () 1 : CellTallies nD τ sig Unit) g u) : u ∈ L g ∧ 0 < lv g u := by
    obtain rfl := tallyAt_pos h
    exact ⟨mem_L _ _ _, Nat.one_pos⟩
  rcases Nat.add_pos_iff_pos_or_pos.mp h with h | h
  · rcases Nat.add_pos_iff_pos_or_pos.mp h with h | h
    · rcases Nat.add_pos_iff_pos_or_pos.mp h with h | h
      · obtain ⟨s, -, rfl⟩ := owedFrom_pos c 7 le_rfl h
        exact ⟨mem_L _ _ _, by show 0 < 12 + (s.val + 1) - 11; omega⟩
      · exact hb _ h
    · exact hb _ h
  · exact hb _ h

end Cert.KernelIdeal.Talk

end
-- ==== Proof.KernelIdeal.Trip.lean ====
/-
The loop over the head pairs of one packet of weights: one trip, at a symbolic trip number and a symbolic device whose heads it
reads, and what the context buffer holds after the last one.
-/
module

public import proofs.«01_k».proof.Proof.KernelIdeal.Proto

@[expose] public section

noncomputable section

namespace Cert.KernelIdeal.Talk

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The values -/

/-- Head pair `t` of batch `b` of the queries. -/
def qsub (Q : FVec F S1024x512 .bf16) (b : Fin 2) (t : Fin 4) : FVec F S512x128 .bf16 := fun j =>
  Q (ix2 ⟨512 * b.val + (j 0).val, by have h : (j 0).val < 512 := (j 0).isLt; omega⟩
    ⟨128 * t.val + (j 1).val, by have h : (j 1).val < 128 := (j 1).isLt; omega⟩)

/-- Head `h` of batch `b` of the keys (or the values). -/
def ksub (K : FVec F S2x64x64x512 .bf16) (b : Fin 2) (h : Fin 64) : FVec F S1x1x64x512 .bf16 := fun j =>
  K (ix4 b h (j 2) (j 3))

/-- The head `sub` of pair `t` of device `d`. -/
def headOf (d : Dev nD) (t : Fin 4) (sub : Fin 2) : Fin 64 := ⟨8 * d.val + 2 * t.val + sub.val, by
  have h : d.val < 8 := d.isLt
  omega⟩

/-- The contexts of a pair of heads. -/
def pairCtx (bias : FVec F S512x512 .f32) (q : FVec F S512x128 .bf16) (k0 v0 k1 v1 : FVec F S1x1x64x512 .bf16) : FVec F S512x128 .bf16 :=
  k0_pay3 (k0_pay1 bias q k0 v0) (k0_pay2 bias q k1) v1

/-- Pair `t` of batch `b`, of the heads of device `d`. -/
def ctxOf (bias : FVec F S512x512 .f32) (Q : FVec F S1024x512 .bf16) (K V : FVec F S2x64x64x512 .bf16) (d : Dev nD) (b : Fin 2) (t : Fin 4) :
    FVec F S512x128 .bf16 :=
  pairCtx bias (qsub Q b t) (ksub K b (headOf d t 0)) (ksub V b (headOf d t 0)) (ksub K b (headOf d t 1)) (ksub V b (headOf d t 1))

/-- The context buffer after the last trip. -/
def ctxV (bias : FVec F S512x512 .f32) (Q : FVec F S1024x512 .bf16) (K V : FVec F S2x64x64x512 .bf16) (d : Dev nD) : FVec F S1024x512 .bf16 := fun i =>
  ctxOf bias Q K V d ⟨(i 0).val / 512, by have h : (i 0).val < 1024 := (i 0).isLt; omega⟩ ⟨(i 1).val / 128, by have h : (i 1).val < 512 := (i 1).isLt; omega⟩
    (ix2 ⟨(i 0).val % 512, Nat.mod_lt _ (by decide)⟩ ⟨(i 1).val % 128, Nat.mod_lt _ (by decide)⟩)

theorem ctxV_at (bias : FVec F S512x512 .f32) (Q : FVec F S1024x512 .bf16) (K V : FVec F S2x64x64x512 .bf16) (d : Dev nD) (b : Fin 2) (t : Fin 4)
    (j : S512x128.Idx) (i : S1024x512.Idx) (h0 : (i 0).val = 512 * b.val + (j 0).val) (h1 : (i 1).val = 128 * t.val + (j 1).val) :
    ctxV bias Q K V d i = ctxOf bias Q K V d b t j := by
  have hj0 : (j 0).val < 512 := (j 0).isLt
  have hj1 : (j 1).val < 128 := (j 1).isLt
  have eb : (⟨(i 0).val / 512, by have h : (i 0).val < 1024 := (i 0).isLt; omega⟩ : Fin 2) = b := Fin.ext (by show (i 0).val / 512 = b.val; omega)
  have et : (⟨(i 1).val / 128, by have h : (i 1).val < 512 := (i 1).isLt; omega⟩ : Fin 4) = t := Fin.ext (by show (i 1).val / 128 = t.val; omega)
  have ej : (ix2 ⟨(i 0).val % 512, Nat.mod_lt _ (by decide)⟩ ⟨(i 1).val % 128, Nat.mod_lt _ (by decide)⟩ : S512x128.Idx) = j := by
    refine Eq.trans ?_ (eq_ix2 j).symm
    exact congrArg₂ ix2 (Fin.ext (by show (i 0).val % 512 = (j 0).val; omega)) (Fin.ext (by show (i 1).val % 128 = (j 1).val; omega))
  unfold ctxV
  exact (congrArg (fun b => ctxOf bias Q K V d b _ _) eb).trans ((congrArg (fun t => ctxOf bias Q K V d b t _) et).trans (congrArg (ctxOf bias Q K V d b t) ej))

/-! ## Loads and stores of a trip -/

abbrev qM : Memref sig .tc .vmem S1024x512 .bf16 := Memref.whole cc0_scratch1
abbrev ctxM : Memref sig .tc .vmem S1024x512 .bf16 := Memref.whole cc0_scratch2
abbrev kM : Memref sig .tc .vmem S2x64x64x512 .bf16 := Memref.whole cc0_stg2_0
abbrev vM : Memref sig .tc .vmem S2x64x64x512 .bf16 := Memref.whole cc0_stg3_0

theorem read_q (Q : FVec F S1024x512 .bf16) (b : Fin 2) (t : Fin 4) {o : Fin 2 → ℕ} (ho : o = ![512 * b.val, 128 * t.val])
    (inb : ∀ a, o a + S512x128.size a ≤ S1024x512.size a) :
    qM.view.readAt (Elt F) (Rect.unit (s := S1024x512) o S512x128.size inb).toLoadRect Q = qsub Q b t := by
  subst ho
  funext j
  refine congrArg Q (funext fun a => Fin.ext ?_)
  fin_cases a
  · show 512 * b.val + 1 * (j 0).val = 512 * b.val + (j 0).val; omega
  · show 128 * t.val + 1 * (j 1).val = 128 * t.val + (j 1).val; omega

theorem window_kv (K : FVec F S2x64x64x512 .bf16) (b : Fin 2) (h : Fin 64) {o : Fin 4 → ℕ} (ho : o = ![b.val, h.val, 0, 0])
    (inb : ∀ a, o a + S1x1x64x512.size a ≤ S2x64x64x512.size a) :
    (fun j => K ((Rect.unit (s := S2x64x64x512) o S1x1x64x512.size inb).emb j)) = ksub K b h := by
  subst ho
  funext j
  refine congrArg K (funext fun a => Fin.ext ?_)
  have h0 : (j 0).val < 1 := (j 0).isLt
  have h1 : (j 1).val < 1 := (j 1).isLt
  fin_cases a
  · show b.val + 1 * (j 0).val = b.val; omega
  · show h.val + 1 * (j 1).val = h.val; omega
  · show 0 + 1 * (j 2).val = (j 2).val; omega
  · show 0 + 1 * (j 3).val = (j 3).val; omega

theorem read_k (K : FVec F S2x64x64x512 .bf16) (b : Fin 2) (h : Fin 64) {o : Fin 4 → ℕ} (ho : o = ![b.val, h.val, 0, 0])
    (inb : ∀ a, o a + S1x1x64x512.size a ≤ S2x64x64x512.size a) :
    kM.view.readAt (Elt F) (Rect.unit (s := S2x64x64x512) o S1x1x64x512.size inb).toLoadRect K = ksub K b h := window_kv K b h ho inb
theorem read_v (V : FVec F S2x64x64x512 .bf16) (b : Fin 2) (h : Fin 64) {o : Fin 4 → ℕ} (ho : o = ![b.val, h.val, 0, 0])
    (inb : ∀ a, o a + S1x1x64x512.size a ≤ S2x64x64x512.size a) :
    vM.view.readAt (Elt F) (Rect.unit (s := S2x64x64x512) o S1x1x64x512.size inb).toLoadRect V = ksub V b h := window_kv V b h ho inb

/-- A store of a pair, at an index in its window. -/
theorem store_in (f : FVec F S1024x512 .bf16) (w : FVec F S512x128 .bf16) {o : Fin 2 → ℕ} (inb : ∀ a, o a + S512x128.size a ≤ S1024x512.size a)
    (i : S1024x512.Idx) (j : S512x128.Idx) (h : ∀ a, (i a).val = o a + (j a).val) :
    (ctxM.access (Rect.unit (s := S1024x512) o S512x128.size inb)).write (Elt F) f w Finset.univ i = w j := by
  have e : i = (ctxM.access (Rect.unit (s := S1024x512) o S512x128.size inb)).emb j :=
    funext fun a => Fin.ext ((h a).trans (ValueKit.view_emb_slice_whole_unit_val cc0_scratch2 _ _ _ _ a).symm)
  rw [e]
  exact View.write_emb_of_mem _ _ (Finset.mem_univ _)

/-- A store of a pair, at an index off its window. -/
theorem store_out (f : FVec F S1024x512 .bf16) (w : FVec F S512x128 .bf16) {o : Fin 2 → ℕ} (inb : ∀ a, o a + S512x128.size a ≤ S1024x512.size a)
    (i : S1024x512.Idx) (h : ∃ a, (i a).val < o a ∨ o a + S512x128.size a ≤ (i a).val) :
    (ctxM.access (Rect.unit (s := S1024x512) o S512x128.size inb)).write (Elt F) f w Finset.univ i = f i := by
  refine View.write_of_not_mem _ _ _ fun hm => ?_
  obtain ⟨j, -, rfl⟩ := Finset.mem_map.mp hm
  obtain ⟨a, ha⟩ := h
  have e := ValueKit.view_emb_slice_whole_unit_val cc0_scratch2 o S512x128.size inb j a
  have hj := (j a).isLt
  have : ((ctxM.access (Rect.unit (s := S1024x512) o S512x128.size inb)).emb j a).val = o a + (j a).val := e
  rcases ha with ha | ha
  · omega
  · have hs : (j a).val < S512x128.size a := hj
    omega

/-- Contents that agree with the contexts on the columns below `128 * n`. -/
def Upto (X : FVec F S1024x512 .bf16) (n : ℕ) (f : FVec F S1024x512 .bf16) : Prop := ∀ i : S1024x512.Idx, (i 1).val < 128 * n → f i = X i

theorem upto_zero (X f : FVec F S1024x512 .bf16) : Upto X 0 f := fun i h => absurd h (by omega)
theorem upto_four {X f : FVec F S1024x512 .bf16} (h : Upto X 4 f) : f = X := funext fun i => h i (by have h : (i 1).val < 512 := (i 1).isLt; omega)

theorem upto_step {bias : FVec F S512x512 .f32} {Q : FVec F S1024x512 .bf16} {K V : FVec F S2x64x64x512 .bf16} {d : Dev nD} {f : FVec F S1024x512 .bf16}
    (t : Fin 4) (h : Upto (ctxV bias Q K V d) t.val f) {o₀ o₁ : Fin 2 → ℕ} (ho₀ : o₀ = ![0, 128 * t.val]) (ho₁ : o₁ = ![512, 128 * t.val])
    (inb₀ : ∀ a, o₀ a + S512x128.size a ≤ S1024x512.size a) (inb₁ : ∀ a, o₁ a + S512x128.size a ≤ S1024x512.size a) :
    Upto (ctxV bias Q K V d) (t.val + 1)
      ((ctxM.access (Rect.unit (s := S1024x512) o₁ S512x128.size inb₁)).write (Elt F)
        ((ctxM.access (Rect.unit (s := S1024x512) o₀ S512x128.size inb₀)).write (Elt F) f (ctxOf bias Q K V d 0 t) Finset.univ)
        (ctxOf bias Q K V d 1 t) Finset.univ) := by
  subst ho₀ ho₁
  intro i hi
  have hi0 : (i 0).val < 1024 := (i 0).isLt
  by_cases hc : (i 1).val < 128 * t.val
  · rw [store_out _ _ _ i ⟨1, .inl hc⟩, store_out _ _ _ i ⟨1, .inl hc⟩]
    exact h i hc
  · by_cases hr : (i 0).val < 512
    · rw [store_out _ _ _ i ⟨0, .inl hr⟩]
      have e0 : (i 0).val = 512 * (0 : Fin 2).val + (i 0).val := by simp
      have e1 : (i 1).val = 128 * t.val + ((i 1).val - 128 * t.val) := by omega
      refine (store_in _ _ _ i (ix2 ⟨(i 0).val, hr⟩ ⟨(i 1).val - 128 * t.val, by omega⟩) fun a => ?_).trans (ctxV_at bias Q K V d 0 t _ i e0 e1).symm
      fin_cases a
      · show (i 0).val = 0 + (i 0).val; omega
      · exact e1
    · have e0 : (i 0).val = 512 * (1 : Fin 2).val + ((i 0).val - 512) := by show (i 0).val = 512 * 1 + _; omega
      have e1 : (i 1).val = 128 * t.val + ((i 1).val - 128 * t.val) := by omega
      refine (store_in _ _ _ i (ix2 ⟨(i 0).val - 512, by omega⟩ ⟨(i 1).val - 128 * t.val, by omega⟩) fun a => ?_).trans (ctxV_at bias Q K V d 1 t _ i e0 e1).symm
      fin_cases a
      · show (i 0).val = 512 + ((i 0).val - 512); omega
      · exact e1

/-! ## One trip -/

abbrev 𝒱₀ : Variants := Variants.none

/-- The program of one trip, its offsets named. -/
def tripProg (bias : FVec F S512x512 .f32) (a₀ a₁ : Fin 2 → ℕ) (ia₀ : ∀ a, a₀ a + S512x128.size a ≤ S1024x512.size a)
    (ia₁ : ∀ a, a₁ a + S512x128.size a ≤ S1024x512.size a)
    (p₀ : (Rect.unit (s := S1024x512) a₀ S512x128.size ia₀).PackedRows (EltTy.packing .bf16))
    (p₁ : (Rect.unit (s := S1024x512) a₁ S512x128.size ia₁).PackedRows (EltTy.packing .bf16))
    (e : Fin 2 → Fin 2 → Fin 4 → ℕ) (ie : ∀ b s a, e b s a + S1x1x64x512.size a ≤ S2x64x64x512.size a) :
    Prog (TpuEff nD τ sig (Elt F) Λ₀ .tc) Unit :=
  .op (.load qM (Rect.unit (s := S1024x512) a₀ S512x128.size ia₀).toLoadRect (View.loadsAt_vmem h_S512x128)) fun q0 =>
  .op (.load kM (Rect.unit (s := S2x64x64x512) (e 0 0) S1x1x64x512.size (ie 0 0)).toLoadRect (View.loadsAt_vmem h_S1x1x64x512)) fun k00 =>
  .op (.load vM (Rect.unit (s := S2x64x64x512) (e 0 0) S1x1x64x512.size (ie 0 0)).toLoadRect (View.loadsAt_vmem h_S1x1x64x512)) fun v00 =>
  .op (.load kM (Rect.unit (s := S2x64x64x512) (e 0 1) S1x1x64x512.size (ie 0 1)).toLoadRect (View.loadsAt_vmem h_S1x1x64x512)) fun k01 =>
  .op (.load vM (Rect.unit (s := S2x64x64x512) (e 0 1) S1x1x64x512.size (ie 0 1)).toLoadRect (View.loadsAt_vmem h_S1x1x64x512)) fun v01 =>
  .op (.load ctxM (Rect.unit (s := S1024x512) a₀ S512x128.size ia₀).toLoadRect (View.loadsAt_vmem h_S512x128)) fun _ =>
  .op (.store ctxM (Rect.unit (s := S1024x512) a₀ S512x128.size ia₀) (k0_pay3 (k0_pay1 bias q0 k00 v00) (k0_pay2 bias q0 k01) v01) Finset.univ
    (View.stores_vmem h_S512x128 ((Memref.isWhole_whole cc0_scratch2).storeExact_slice rfl _ p₀) (fun _ => rfl)) (.inl rfl)) fun _ =>
  .op (.load qM (Rect.unit (s := S1024x512) a₁ S512x128.size ia₁).toLoadRect (View.loadsAt_vmem h_S512x128)) fun q1 =>
  .op (.load kM (Rect.unit (s := S2x64x64x512) (e 1 0) S1x1x64x512.size (ie 1 0)).toLoadRect (View.loadsAt_vmem h_S1x1x64x512)) fun k10 =>
  .op (.load vM (Rect.unit (s := S2x64x64x512) (e 1 0) S1x1x64x512.size (ie 1 0)).toLoadRect (View.loadsAt_vmem h_S1x1x64x512)) fun v10 =>
  .op (.load kM (Rect.unit (s := S2x64x64x512) (e 1 1) S1x1x64x512.size (ie 1 1)).toLoadRect (View.loadsAt_vmem h_S1x1x64x512)) fun k11 =>
  .op (.load vM (Rect.unit (s := S2x64x64x512) (e 1 1) S1x1x64x512.size (ie 1 1)).toLoadRect (View.loadsAt_vmem h_S1x1x64x512)) fun v11 =>
  .op (.load ctxM (Rect.unit (s := S1024x512) a₁ S512x128.size ia₁).toLoadRect (View.loadsAt_vmem h_S512x128)) fun _ =>
  .op (.store ctxM (Rect.unit (s := S1024x512) a₁ S512x128.size ia₁)
    (k0_pay63 bias q1 (k0_pay5 bias q1 k10) (k0_pay6 bias q1 k10 v10) (k0_pay7 (F := F)) k11 v11) Finset.univ
    (View.stores_vmem h_S512x128 ((Memref.isWhole_whole cc0_scratch2).storeExact_slice rfl _ p₁) (fun _ => rfl)) (.inl rfl)) fun _ =>
  .ret ⟨⟩

theorem pay63_eq (bias : FVec F S512x512 .f32) (q : FVec F S512x128 .bf16) (k0 v0 k1 v1 : FVec F S1x1x64x512 .bf16) :
    k0_pay63 bias q (k0_pay5 bias q k0) (k0_pay6 bias q k0 v0) (k0_pay7 (F := F)) k1 v1 = pairCtx bias q k0 v0 k1 v1 := rfl

/-- What a trip reads. -/
def tripRes (c : Dev nD) (Q : FVec F S1024x512 .bf16) (K V : FVec F S2x64x64x512 .bf16) : sProp 𝕄 :=
  iprop(((c : Thread nD τ).loc cc0_scratch1 ↦{fullShare} Q) ∗ ((c : Thread nD τ).loc cc0_stg2_0 ↦{fullShare} K) ∗
    ((c : Thread nD τ).loc cc0_stg3_0 ↦{fullShare} V))

/-- Before trip `n`: the columns of the pairs before it are written. -/
def tripInv (c : Dev nD) (Q : FVec F S1024x512 .bf16) (K V : FVec F S2x64x64x512 .bf16) (X : FVec F S1024x512 .bf16) (n : ℕ) : sProp 𝕄 :=
  iprop(tripRes c Q K V ∗ ∃ f : FVec F S1024x512 .bf16, ⌜Upto X n f⌝ ∗ ((c : Thread nD τ).loc cc0_scratch2 ↦{fullShare} f))

theorem trip_wp (c d : Dev nD) (bias : FVec F S512x512 .f32) (Q : FVec F S1024x512 .bf16) (K V : FVec F S2x64x64x512 .bf16) (t : Fin 4)
    {a₀ a₁ : Fin 2 → ℕ} (ha₀ : a₀ = ![0, 128 * t.val]) (ha₁ : a₁ = ![512, 128 * t.val])
    (ia₀ : ∀ a, a₀ a + S512x128.size a ≤ S1024x512.size a) (ia₁ : ∀ a, a₁ a + S512x128.size a ≤ S1024x512.size a)
    (p₀ : (Rect.unit (s := S1024x512) a₀ S512x128.size ia₀).PackedRows (EltTy.packing .bf16))
    (p₁ : (Rect.unit (s := S1024x512) a₁ S512x128.size ia₁).PackedRows (EltTy.packing .bf16))
    (e : Fin 2 → Fin 2 → Fin 4 → ℕ) (he : ∀ b s, e b s = ![b.val, (headOf d t s).val, 0, 0])
    (ie : ∀ b s a, e b s a + S1x1x64x512.size a ≤ S2x64x64x512.size a) :
    tripInv c Q K V (ctxV bias Q K V d) t.val
      ⊢ wp frame (wpE (defs₀ (F := F)) 𝒱₀ (c : Thread nD τ) none) Set.univ (tripProg bias a₀ a₁ ia₀ ia₁ p₀ p₁ e ie)
          (fun _ => tripInv c Q K V (ctxV bias Q K V d) (t.val + 1)) := by
  unfold tripInv tripRes tripProg
  iintro ⟨⟨Hq, Hk, Hv⟩, ⟨%f, %hf, Hc⟩⟩
  iapply (wp_load 𝒱₀ (c : Thread nD τ) none Set.univ (m := qM) (Finset.subset_univ _)) $$ Hq; iintro Hq
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  iapply (wp_load 𝒱₀ (c : Thread nD τ) none Set.univ (m := ctxM) (Finset.subset_univ _)) $$ Hc; iintro Hc
  iapply (wp_store 𝒱₀ (c : Thread nD τ) none Set.univ (m := ctxM) (r := Rect.unit (s := S1024x512) a₀ S512x128.size ia₀) (Mk := Finset.univ) (Finset.subset_univ _)) $$ Hc; iintro Hc
  iapply (wp_load 𝒱₀ (c : Thread nD τ) none Set.univ (m := qM) (Finset.subset_univ _)) $$ Hq; iintro Hq
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  iapply (wp_load 𝒱₀ (c : Thread nD τ) none Set.univ (m := ctxM) (Finset.subset_univ _)) $$ Hc; iintro Hc
  iapply (wp_store 𝒱₀ (c : Thread nD τ) none Set.univ (m := ctxM) (r := Rect.unit (s := S1024x512) a₁ S512x128.size ia₁) (Mk := Finset.univ) (Finset.subset_univ _)) $$ Hc; iintro Hc
  rw [wp_ret]; imodintro
  isplitl [Hq Hk Hv]
  · isplitl [Hq]; · iexact Hq
    isplitl [Hk] <;> iassumption
  · iexists _; isplitr; rotate_left
    · iexact Hc
    · ipureintro
      rw [pay63_eq]
      rw [read_q Q 0 t ha₀ ia₀, read_q Q 1 t ha₁ ia₁, read_k K 0 _ (he 0 0), read_k K 0 _ (he 0 1), read_k K 1 _ (he 1 0), read_k K 1 _ (he 1 1),
        read_v V 0 _ (he 0 0), read_v V 0 _ (he 0 1), read_v V 1 _ (he 1 0), read_v V 1 _ (he 1 1)]
      exact upto_step t hf ha₀ ha₁ ia₀ ia₁

/-! ## The whole loop -/

/-- A loop whose every trip is `tripProg` at the heads of device `d` leaves the contexts. -/
theorem loop_wp (c d : Dev nD) (bias : FVec F S512x512 .f32) (Q : FVec F S1024x512 .bf16) (K V : FVec F S2x64x64x512 .bf16)
    (l : Scf.Loop 32) (hok : l.OK) (htr : l.trips = 4) (body : Fin l.trips → Unit → Prog (TpuEff nD τ sig (Elt F) Λ₀ .tc) Unit)
    (hbody : ∀ k u, tripInv c Q K V (ctxV bias Q K V d) k.val
      ⊢ wp frame (wpE (defs₀ (F := F)) 𝒱₀ (c : Thread nD τ) none) Set.univ (body k u) (fun _ => tripInv c Q K V (ctxV bias Q K V d) (k.val + 1)))
    {β : Type} {kk : Unit → Prog (TpuEff nD τ sig (Elt F) Λ₀ .tc) β} {P : β → sProp 𝕄} :
    iprop(tripRes c Q K V ∗ ∃ f, ((c : Thread nD τ).loc cc0_scratch2 ↦{fullShare} f))
      ⊢ iprop((tripRes c Q K V ∗ ((c : Thread nD τ).loc cc0_scratch2 ↦{fullShare} ctxV bias Q K V d)
            -∗ wp frame (wpE (defs₀ (F := F)) 𝒱₀ (c : Thread nD τ) none) Set.univ (kk ⟨⟩) P)
          -∗ wp frame (wpE (defs₀ (F := F)) 𝒱₀ (c : Thread nD τ) none) Set.univ ((Scf.Loop.for l hok ⟨⟩ body).bind kk) P) := by
  iintro ⟨HR, ⟨%f, Hc⟩⟩ HK
  iapply (Scf.wp_for_bind frame (wpE (defs₀ (F := F)) 𝒱₀ (c : Thread nD τ) none) Set.univ l.lb l.ub l.st hok _ _
      (fun n _ => tripInv c Q K V (ctxV bias Q K V d) n) hbody) $$ [HR Hc]
  · unfold tripInv
    isplitl [HR]; · iexact HR
    iexists f; isplitr
    · ipureintro; exact upto_zero _ _
    · iexact Hc
  · iintro %u H
    rw [show Scf.trips l.lb l.ub l.st = 4 from htr]
    unfold tripInv
    icases H with ⟨HR, ⟨%f, %hf, Hc⟩⟩
    rw [upto_four hf]
    iapply HK
    isplitl [HR] <;> iassumption

end Cert.KernelIdeal.Talk

end
-- ==== Proof.KernelIdeal.Heads.lean ====
/-
The loop over the head pairs at each of its eight places in the body: the heads read are those of the device whose weights the
slot holds.
-/
module

public import proofs.«01_k».proof.Proof.KernelIdeal.Trip

@[expose] public section

noncomputable section

namespace Cert.KernelIdeal.Talk

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- The offsets of a trip's reads of the keys and the values, by batch and by head of the pair. -/
def pick (f g : BitVec 32 → Fin 4 → ℕ) (b s : Fin 2) : Fin 4 → ℕ := (![f, g] : Fin 2 → BitVec 32 → Fin 4 → ℕ) b (BitVec.ofNat 32 s.val)

theorem pick_eq {f g : BitVec 32 → Fin 4 → ℕ} {d : Dev nD} {t : Fin 4} {x : ℕ} (hx : d.val = x)
    (hf : ∀ r : Fin 2, f (BitVec.ofNat 32 r.val) = ![0, 8 * x + 2 * t.val + r.val, 0, 0])
    (hg : ∀ r : Fin 2, g (BitVec.ofNat 32 r.val) = ![1, 8 * x + 2 * t.val + r.val, 0, 0]) (b s : Fin 2) :
    pick f g b s = ![b.val, (headOf d t s).val, 0, 0] := by
  subst hx
  fin_cases b
  · exact hf s
  · exact hg s

theorem pick_inb {f g : BitVec 32 → Fin 4 → ℕ} (hf : ∀ (r : Fin 2) (a : Fin 4), f (BitVec.ofNat 32 r.val) a + S1x1x64x512.size a ≤ S2x64x64x512.size a)
    (hg : ∀ (r : Fin 2) (a : Fin 4), g (BitVec.ofNat 32 r.val) a + S1x1x64x512.size a ≤ S2x64x64x512.size a) (b s : Fin 2) (a : Fin 4) :
    pick f g b s a + S1x1x64x512.size a ≤ S2x64x64x512.size a := by
  fin_cases b
  · exact hf s a
  · exact hg s a

variable (c : Dev nD) (bias : FVec F S512x512 .f32) (Q : FVec F S1024x512 .bf16) (K V : FVec F S2x64x64x512 .bf16)

theorem trip1 (v2 v4 : BitVec 32) (k : Fin k0_t1_loop.trips) (u : Unit) : tripInv c Q K V (ctxV bias Q K V (srcDev 0 c)) k.val
    ⊢ wp frame (wpE (defs₀ (F := F)) 𝒱₀ (c : Thread nD τ) none) Set.univ
        (k0_t1_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v2 v4 bias k u)
        (fun _ => tripInv c Q K V (ctxV bias Q K V (srcDev 0 c)) (k.val + 1)) :=
  trip_wp c (srcDev 0 c) bias Q K V ⟨k.val, Nat.lt_of_lt_of_le k.isLt k0_t1_abs.2.1⟩ (k0_off1_eq k) (k0_off3_eq k) (k0_off1_inb k) (k0_off3_inb k)
    (k0_off1_packedbf16 k) (k0_off3_packedbf16 k) (pick (k0_off2 c k) (k0_off4 c k))
    (pick_eq (by have h : c.val < 8 := c.isLt; show (c.val + 0) % 8 = c.val; omega) (k0_off2_eq c k) (k0_off4_eq c k)) (pick_inb (k0_off2_inb c k) (k0_off4_inb c k))

theorem trip2 (v4 v7 : BitVec 32) (k : Fin k0_t2_loop.trips) (u : Unit) : tripInv c Q K V (ctxV bias Q K V (srcDev 1 c)) k.val
    ⊢ wp frame (wpE (defs₀ (F := F)) 𝒱₀ (c : Thread nD τ) none) Set.univ
        (k0_t2_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v4 v7 bias k u)
        (fun _ => tripInv c Q K V (ctxV bias Q K V (srcDev 1 c)) (k.val + 1)) :=
  trip_wp c (srcDev 1 c) bias Q K V ⟨k.val, Nat.lt_of_lt_of_le k.isLt k0_t2_abs.2.1⟩ (k0_off5_eq k) (k0_off7_eq k) (k0_off5_inb k) (k0_off7_inb k)
    (k0_off5_packedbf16 k) (k0_off7_packedbf16 k) (pick (k0_off6 c k) (k0_off8 c k))
    (pick_eq rfl (k0_off6_eq c k) (k0_off8_eq c k)) (pick_inb (k0_off6_inb c k) (k0_off8_inb c k))

theorem trip3 (v4 : BitVec 32) (v220 : FVec F S1024x768 .f32) (k : Fin k0_t3_loop.trips) (u : Unit) : tripInv c Q K V (ctxV bias Q K V (srcDev 2 c)) k.val
    ⊢ wp frame (wpE (defs₀ (F := F)) 𝒱₀ (c : Thread nD τ) none) Set.univ
        (k0_t3_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v4 bias v220 k u)
        (fun _ => tripInv c Q K V (ctxV bias Q K V (srcDev 2 c)) (k.val + 1)) :=
  trip_wp c (srcDev 2 c) bias Q K V ⟨k.val, Nat.lt_of_lt_of_le k.isLt k0_t3_abs.2.1⟩ (k0_off9_eq k) (k0_off11_eq k) (k0_off9_inb k) (k0_off11_inb k)
    (k0_off9_packedbf16 k) (k0_off11_packedbf16 k) (pick (k0_off10 c k) (k0_off12 c k))
    (pick_eq rfl (k0_off10_eq c k) (k0_off12_eq c k)) (pick_inb (k0_off10_inb c k) (k0_off12_inb c k))

theorem trip4 (v4 v9 : BitVec 32) (v247 : FVec F S1024x512 .f32) (k : Fin k0_t4_loop.trips) (u : Unit) : tripInv c Q K V (ctxV bias Q K V (srcDev 3 c)) k.val
    ⊢ wp frame (wpE (defs₀ (F := F)) 𝒱₀ (c : Thread nD τ) none) Set.univ
        (k0_t4_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v4 v9 bias v247 k u)
        (fun _ => tripInv c Q K V (ctxV bias Q K V (srcDev 3 c)) (k.val + 1)) :=
  trip_wp c (srcDev 3 c) bias Q K V ⟨k.val, Nat.lt_of_lt_of_le k.isLt k0_t4_abs.2.1⟩ (k0_off13_eq k) (k0_off15_eq k) (k0_off13_inb k) (k0_off15_inb k)
    (k0_off13_packedbf16 k) (k0_off15_packedbf16 k) (pick (k0_off14 c k) (k0_off16 c k))
    (pick_eq rfl (k0_off14_eq c k) (k0_off16_eq c k)) (pick_inb (k0_off14_inb c k) (k0_off16_inb c k))

theorem trip5 (v2 v300 : BitVec 32) (k : Fin k0_t5_loop.trips) (u : Unit) : tripInv c Q K V (ctxV bias Q K V (srcDev 4 c)) k.val
    ⊢ wp frame (wpE (defs₀ (F := F)) 𝒱₀ (c : Thread nD τ) none) Set.univ
        (k0_t5_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v2 bias v300 k u)
        (fun _ => tripInv c Q K V (ctxV bias Q K V (srcDev 4 c)) (k.val + 1)) :=
  trip_wp c (srcDev 4 c) bias Q K V ⟨k.val, Nat.lt_of_lt_of_le k.isLt k0_t5_abs.2.1⟩ (k0_off17_eq k) (k0_off19_eq k) (k0_off17_inb k) (k0_off19_inb k)
    (k0_off17_packedbf16 k) (k0_off19_packedbf16 k) (pick (k0_off18 c k) (k0_off20 c k))
    (pick_eq rfl (k0_off18_eq c k) (k0_off20_eq c k)) (pick_inb (k0_off18_inb c k) (k0_off20_inb c k))

theorem trip6 (v4 v321 : BitVec 32) (v327 : FVec F S1024x512 .bf16) (k : Fin k0_t6_loop.trips) (u : Unit) : tripInv c Q K V (ctxV bias Q K V (srcDev 5 c)) k.val
    ⊢ wp frame (wpE (defs₀ (F := F)) 𝒱₀ (c : Thread nD τ) none) Set.univ
        (k0_t6_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v4 bias v321 v327 k u)
        (fun _ => tripInv c Q K V (ctxV bias Q K V (srcDev 5 c)) (k.val + 1)) :=
  trip_wp c (srcDev 5 c) bias Q K V ⟨k.val, Nat.lt_of_lt_of_le k.isLt k0_t6_abs.2.1⟩ (k0_off21_eq k) (k0_off23_eq k) (k0_off21_inb k) (k0_off23_inb k)
    (k0_off21_packedbf16 k) (k0_off23_packedbf16 k) (pick (k0_off22 c k) (k0_off24 c k))
    (pick_eq rfl (k0_off22_eq c k) (k0_off24_eq c k)) (pick_inb (k0_off22_inb c k) (k0_off24_inb c k))

theorem trip7 (v2 v359 : BitVec 32) (k : Fin k0_t7_loop.trips) (u : Unit) : tripInv c Q K V (ctxV bias Q K V (srcDev 6 c)) k.val
    ⊢ wp frame (wpE (defs₀ (F := F)) 𝒱₀ (c : Thread nD τ) none) Set.univ
        (k0_t7_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v2 bias v359 k u)
        (fun _ => tripInv c Q K V (ctxV bias Q K V (srcDev 6 c)) (k.val + 1)) :=
  trip_wp c (srcDev 6 c) bias Q K V ⟨k.val, Nat.lt_of_lt_of_le k.isLt k0_t7_abs.2.1⟩ (k0_off25_eq k) (k0_off27_eq k) (k0_off25_inb k) (k0_off27_inb k)
    (k0_off25_packedbf16 k) (k0_off27_packedbf16 k) (pick (k0_off26 c k) (k0_off28 c k))
    (pick_eq rfl (k0_off26_eq c k) (k0_off28_eq c k)) (pick_inb (k0_off26_inb c k) (k0_off28_inb c k))

theorem trip8 (v2 v338 v380 : BitVec 32) (k : Fin k0_t8_loop.trips) (u : Unit) : tripInv c Q K V (ctxV bias Q K V (srcDev 7 c)) k.val
    ⊢ wp frame (wpE (defs₀ (F := F)) 𝒱₀ (c : Thread nD τ) none) Set.univ
        (k0_t8_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v2 bias v338 v380 k u)
        (fun _ => tripInv c Q K V (ctxV bias Q K V (srcDev 7 c)) (k.val + 1)) :=
  trip_wp c (srcDev 7 c) bias Q K V ⟨k.val, Nat.lt_of_lt_of_le k.isLt k0_t8_abs.2.1⟩ (k0_off29_eq k) (k0_off31_eq k) (k0_off29_inb k) (k0_off31_inb k)
    (k0_off29_packedbf16 k) (k0_off31_packedbf16 k) (pick (k0_off30 c k) (k0_off32 c k))
    (pick_eq rfl (k0_off30_eq c k) (k0_off32_eq c k)) (pick_inb (k0_off30_inb c k) (k0_off32_inb c k))

end Cert.KernelIdeal.Talk

end
-- ==== Proof.KernelIdeal.Steps.lean ====
/-
The steps of the protocol at a symbolic device: a signal, the wait for the three of them, a send, a wait for what arrives, a wait for
what was sent, and giving the cells back at the end.
-/
module

public import proofs.«01_k».proof.Proof.KernelIdeal.Heads

@[expose] public section

noncomputable section

namespace Cert.KernelIdeal.Talk

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (PK : Dev nD → FVec F S768x1024 .bf16) (K : GSem nD τ sig → ℕ)

/-! ## The cells of the launch and their records -/

/-- The semaphores of the call's own: seven for sends, eight for receives. -/
def osem : Fin 15 → SemLoc sig := fun k => .dma ⟨5 + k.val, by have := k.isLt; show 5 + k.val < 20; omega⟩

theorem osem_inj : Function.Injective osem := by
  intro a b h
  have h' := SemLoc.dma.inj h
  have h2 : 5 + a.val = 5 + b.val := congrArg Fin.val h'
  exact Fin.ext (by omega)

def barEmb : Dev nD ↪ GSem nD τ sig := ⟨barCell, fun a b h => congrArg (fun g : GSem nD τ sig => g.1.1) h⟩
def scEmb : Dev nD × Fin 15 ↪ GSem nD τ sig :=
  ⟨fun p => ((p.1 : Thread nD τ), osem p.2), fun a b h =>
    Prod.ext (congrArg (fun g : GSem nD τ sig => g.1.1) h) (osem_inj (congrArg (fun g : GSem nD τ sig => g.2) h))⟩
def barCells : Finset (GSem nD τ sig) := Finset.univ.map barEmb
def scCells : Finset (GSem nD τ sig) := Finset.univ.map scEmb

theorem mem_bar (c : Dev nD) : barCell c ∈ barCells := Finset.mem_map.mpr ⟨c, Finset.mem_univ _, rfl⟩
theorem send_eq (s : Fin 7) (c : Dev nD) : scEmb (c, ⟨s.val, by omega⟩) = sendCell s c := rfl
theorem recv_eq (k : Fin 8) (c : Dev nD) : scEmb (c, ⟨7 + k.val, by omega⟩) = recvCell k c := by
  refine congrArg (fun x : DmaSem sig => (((c : Thread nD τ), SemLoc.dma x) : GSem nD τ sig)) (Fin.ext ?_)
  show 5 + (7 + k.val) = 12 + k.val
  omega
theorem mem_send (s : Fin 7) (c : Dev nD) : sendCell s c ∈ scCells := Finset.mem_map.mpr ⟨_, Finset.mem_univ _, send_eq s c⟩
theorem mem_recv (k : Fin 8) (c : Dev nD) : recvCell k c ∈ scCells := Finset.mem_map.mpr ⟨_, Finset.mem_univ _, recv_eq k c⟩

/-- What is known of the cells throughout. -/
def records : sProp 𝕄 :=
  iprop((bigSep (barCells ∪ scCells) fun g => cellInv ER (sched PK) (K g) g) ∗ bigSep barCells fun g => reached ER g 0)

instance records_persistent : BI.Persistent (records (F := F) PK K) := by unfold records; infer_instance

theorem inv_of {g : GSem nD τ sig} (h : g ∈ barCells ∪ scCells) : records (F := F) PK K ⊢ cellInv ER (sched PK) (K g) g := by
  unfold records
  exact sep_elim_left.trans (show _ ⊢ _ from bigSep_elim (Φ := fun g => (cellInv ER (sched PK) (K g) g : sProp 𝕄)) h)
theorem inv_bar (c : Dev nD) : records (F := F) PK K ⊢ cellInv ER (sched PK) (K (barCell c)) (barCell c) :=
  inv_of PK K (Finset.mem_union_left _ (mem_bar c))
theorem inv_send (s : Fin 7) (c : Dev nD) : records (F := F) PK K ⊢ cellInv ER (sched PK) (K (sendCell s c)) (sendCell s c) :=
  inv_of PK K (Finset.mem_union_right _ (mem_send s c))
theorem inv_recv (k : Fin 8) (c : Dev nD) : records (F := F) PK K ⊢ cellInv ER (sched PK) (K (recvCell k c)) (recvCell k c) :=
  inv_of PK K (Finset.mem_union_right _ (mem_recv k c))
theorem reached_bar (c : Dev nD) : records (F := F) PK K ⊢ reached ER (barCell c) 0 := by
  unfold records
  exact sep_elim_right.trans (show _ ⊢ _ from bigSep_elim (Φ := fun g => (reached ER g 0 : sProp 𝕄)) (mem_bar c))

/-! ## The steps -/

/-- What the device owes, whatever it has waited for. -/
def owesE (c : Dev nD) (O : CellTallies nD τ sig Unit) : sProp 𝕄 := iprop(∃ W, owes (c : Thread nD τ) O W)

/-- The device whose barrier signal `j` of device `c` raises. -/
abbrev tgt (j : Fin 3) (c : Dev nD) : Dev nD := shift ((![7, 1, 4] : Fin 3 → ℕ) j) c

theorem peer_tgt (s : Fin 7) (j : Fin 3) (h : dir s = j) (c : Dev nD) : peer s (tgt j c) = c := by
  subst h; exact shift_inv _ _ (by revert s; decide) c

/-- The slots a signal hands over, and that they may be raised. -/
def handed (j : Fin 3) (c : Dev nD) : sProp 𝕄 :=
  bigSep (Finset.univ.filter fun s => dir s = j) fun s => iprop((∃ f, slotPts c s.succ fullShare f) ∗ reached ER (recvCell s.succ c) 0)

theorem handed_pay (j : Fin 3) (c : Dev nD) : handed (F := F) j c = barPay j (tgt j c) := by
  unfold handed barPay give
  refine bigSep_congr fun s hs => ?_
  rw [peer_tgt s j (Finset.mem_filter.mp hs).2 c]

section

variable (c : Dev nD) {α : Type}

theorem signal_step (j : Fin 3) {d : Dev nD} (hd : d = tgt j c) (O : CellTallies nD τ sig Unit)
    {k : PUnit → Prog (TpuEff nD τ sig (Elt F) Λ₀ (c : Thread nD τ).2) α} {P} :
    iprop(records PK K ∗ owesE (F := F) c (O + tallyAt (barCell (tgt j c)) () 1) ∗ dutyTok ER (barCell (tgt j c)) 0 j ∗ handed j c)
      ⊢ iprop((owesE c O -∗ wp frame (wpE (defs₀ (F := F)) 𝒱₀ (c : Thread nD τ) none) Set.univ (k ⟨⟩) P)
          -∗ wp frame (wpE (defs₀ (F := F)) 𝒱₀ (c : Thread nD τ) none) Set.univ (.op (.semSignal ((d, (c : Thread nD τ).2) : Thread nD τ) barrier0 (1#32 : BitVec 32).toInt) k) P) := by
  subst hd
  unfold owesE
  iintro ⟨#HR, ⟨%W, HO⟩, Ht, Hp⟩ Hk
  ihave #HI := (inv_bar PK K (tgt j c)) $$ HR
  ihave #Hr := (reached_bar PK K (tgt j c)) $$ HR
  ihave Hp := (Entails.of_eq (handed_pay j c)) $$ Hp
  iapply (Rounds.wp_signal 𝒱₀ ER (sched PK) (c : Thread nD τ) none (dst := (tgt j c : Thread nD τ)) (κ := K (barCell (tgt j c))) (d := j)
    (by rw [duties_bar]; exact Finset.mem_univ _) ((amount_bar PK (tgt j c) j).trans (by decide)) () O rfl) $$ [HO Ht Hp]
  · isplitr; · iexact HI
    isplitl [HO]; · iexact HO
    isplitl [Ht]; · iexact Ht
    isplitl [Hp]; · rw [payload_bar]; iexact Hp
    iexact Hr
  iintro HO
  iapply Hk
  iexists W
  iexact HO

theorem barrier_step {k : PUnit → Prog (TpuEff nD τ sig (Elt F) Λ₀ (c : Thread nD τ).2) α} {P} :
    iprop(records PK K ∗ levAts L lv ∗ cred (tallyAt (barCell c) () 3) ∗ owesE (F := F) c (owedFrom c 7) ∗ atPos ER (barCell c) 0 ∅ 0)
      ⊢ iprop((owesE c (owedFrom c 7) ∗ atPos ER (barCell c) 1 ∅ 0 ∗ (bigSep Finset.univ fun s => give (F := F) s c) -∗ wp frame (wpE (defs₀ (F := F)) 𝒱₀ (c : Thread nD τ) none) Set.univ (k ⟨⟩) P)
          -∗ wp frame (wpE (defs₀ (F := F)) 𝒱₀ (c : Thread nD τ) none) Set.univ (.op (.semWait barrier0 (3#32 : BitVec 32).toInt) k) P) := by
  unfold owesE
  iintro ⟨#HR, HL, Hc, ⟨%W, HO⟩, Hat⟩ Hk
  ihave #HI := (inv_bar PK K c) $$ HR
  iapply (Rounds.wp_wait_rest_token 𝒱₀ ER (sched PK) (c : Thread nD τ) none (κ := K (barCell c)) (wpE_semWait_eq 𝒱₀ (c : Thread nD τ) none Set.univ (sem := barrier0) (k := 3))
    (Set.mem_univ _) () (O := owedFrom c 7) (W := W) (R := 0) (m := 0) (T := ∅) (k' := 3) (by rw [expect_bar])) $$ [HL Hc HO Hat]
  · isplitr; · iexact HI
    isplitl [Hc]; · iexact Hc
    isplitl [HO]; · iexact HO
    isplitl [HL]; · iapply (mayWait_of c (.reg barrier0) 7 le_rfl (by decide)) $$ HL
    iexact Hat
  iintro ⟨HO, Hat, -, Hpay⟩
  ihave H := (Entails.of_eq (rest_bar PK c)) $$ Hpay
  iapply Hk
  isplitl [HO]; · iexists _; iexact HO
  isplitl [Hat]; · iexact Hat
  iexact H

/-- The tokens of a send. -/
def sendTok (s : Fin 7) : sProp 𝕄 :=
  iprop(dutyTok ER (sendCell s c) 0 0 ∗ reached ER (sendCell s c) 0 ∗ dutyTok ER (recvCell s.succ (peer s c)) 0 0)

theorem send_step (s : Fin 7) (n : ℕ) (hn : Fin.rev (Fin.ofNat 7 n) = s) {d : Dev nD} (hd : d = peer s c)
    {src : Memref sig (c : Thread nD τ).2.kind .vmem S768x1024 .bf16} (esrc : src = slotM (srcSlot s))
    {dst : Memref sig (Dev.tc d : Thread nD τ).2.kind .vmem S768x1024 .bf16} (edst : dst = slotM s.succ)
    {sS rS : DmaSem sig} (esS : sS = sendSem s) (erS : rS = recvSem s.succ)
    {hsc : dst.view.ref.isScScratch = false} {hsrc : src.view.WordExact} {hdst : dst.view.WordExact}
    {hsem : DmaTarget.Typed .vmem (.dma rS) (.remote (Dev.tc d : Thread nD τ) dst (.dma sS) hsc)}
    {k : PUnit → Prog (TpuEff nD τ sig (Elt F) Λ₀ (c : Thread nD τ).2) α} {P} :
    iprop(records PK K ∗ slotPts c (srcSlot s) (lent s) (ring PK c) ∗ give (F := F) s c ∗ owesE c (owedFrom c (n + 1)) ∗ sendTok c s)
      ⊢ iprop((owesE c (owedFrom c n) ∗ cred (tallyAt (sendCell s c) () N) -∗ wp frame (wpE (defs₀ (F := F)) 𝒱₀ (c : Thread nD τ) none) Set.univ (k ⟨⟩) P)
          -∗ wp frame (wpE (defs₀ (F := F)) 𝒱₀ (c : Thread nD τ) none) Set.univ (.op (.enqueueDma src (.remote (Dev.tc d : Thread nD τ) dst (.dma sS) hsc) (.dma rS) hsrc hdst hsem) k) P) := by
  subst hd esrc edst esS erS
  unfold owesE sendTok
  iintro ⟨#HR, Hs, Hg, ⟨%W, HO⟩, ⟨Ht1, #Hr1, Ht2⟩⟩ Hk
  ihave #HI1 := (inv_send PK K s c) $$ HR
  ihave #HI2 := (inv_recv PK K s.succ (peer s c)) $$ HR
  unfold give
  icases Hg with ⟨⟨%fn, Hn⟩, #Hr2⟩
  unfold slotPts
  have hN : (slotM s.succ).view.amount (.dma (recvSem s.succ)) = N := rfl
  have hp1 : ((slotM (srcSlot s)).view.loc (c : Thread nD τ) ↦[(slotM (srcSlot s)).view.set]{lent s} ring PK c : sProp 𝕄)
      ⊢ (sched PK).payload (sendCell s c) 0 0 := by rw [payload_send]; exact Entails.rfl
  have hp2 : ((slotM s.succ).view.loc (peer s c : Thread nD τ) ↦[(slotM s.succ).view.set]{fullShare}
        ((slotM s.succ).view.write (Elt F) fn ((slotM (srcSlot s)).view.read (Elt F) (ring PK c)) Finset.univ) : sProp 𝕄)
      ⊢ (sched PK).payload (recvCell s.succ (peer s c)) 0 0 := by
    rw [payload_recv]; exact Entails.of_eq (pointsTo_congr fun i hi => landed PK s c fn i hi)
  have hO : owedFrom c (n + 1) = owedFrom c n + tallyAt (recvCell s.succ (peer s c)) () N := by rw [owedFrom, hn]
  have hd1 : (0 : Fin 3) ∈ (sched PK).duties (sendCell s c) 0 := by rw [duties_send]; exact Finset.mem_singleton_self _
  have hd2 : (0 : Fin 3) ∈ (sched PK).duties (recvCell s.succ (peer s c)) 0 := by rw [duties_recv]; exact Finset.mem_singleton_self _
  iapply (Rounds.wp_send_pointsTo 𝒱₀ ER (sched PK) (c : Thread nD τ) none (c' := (peer s c : Thread nD τ))
    (src := slotM (srcSlot s)) (dst := slotM s.succ) (sS := .dma (sendSem s)) (sem := .dma (recvSem s.succ))
    (κ₁ := K (sendCell s c)) (κ₂ := K (recvCell s.succ (peer s c))) (fd := fn) (q := lent s) (fs := ring PK c)
    hd1 hd2 () () N hN (amount_send PK c s 0) (amount_recv PK (peer s c) s.succ 0) (owedFrom c n) hO (W := W) hp1 hp2) $$ [Hs Hn HO Ht1 Ht2]
  · isplitr; · iexact HI1
    isplitr; · iexact HI2
    isplitl [Hs]; · iexact Hs
    isplitl [Hn]; · iexact Hn
    isplitl [HO]; · iexact HO
    isplitl [Ht1]; · iexact Ht1
    isplitr; · iexact Hr1
    isplitl [Ht2]; · iexact Ht2
    iexact Hr2
  iintro ⟨Hc, HO⟩
  iapply Hk
  isplitl [HO]; · iexists W; iexact HO
  iexact Hc

theorem recv_step (s : Fin 7) (n : ℕ) (hn : n ≤ 7) (hlt : lvOf (.dma (recvSem s.succ)) < 9 - n)
    {src dst : Memref sig .tc .vmem S768x1024 .bf16} (edst : dst = slotM s.succ) {rS : DmaSem sig} (erS : rS = recvSem s.succ)
    {hsrc : src.view.WordExact} {hdst : dst.view.WordExact}
    {k : PUnit → Prog (TpuEff nD τ sig (Elt F) Λ₀ (c : Thread nD τ).2) α} {P} :
    iprop(records PK K ∗ levAts L lv ∗ cred (tallyAt (recvCell s.succ c) () N) ∗ owesE (F := F) c (owedFrom c n) ∗ atPos ER (recvCell s.succ c) 0 ∅ 0)
      ⊢ iprop((owesE c (owedFrom c n) ∗ atPos ER (recvCell s.succ c) 1 ∅ 0 ∗ slotPts c s.succ fullShare (ring PK c) -∗ wp frame (wpE (defs₀ (F := F)) 𝒱₀ (c : Thread nD τ) none) Set.univ (k ⟨⟩) P)
          -∗ wp frame (wpE (defs₀ (F := F)) 𝒱₀ (c : Thread nD τ) none) Set.univ (.op (.waitDma2 rS src dst hsrc hdst) k) P) := by
  subst edst erS
  unfold owesE
  iintro ⟨#HR, HL, Hc, ⟨%W, HO⟩, Hat⟩ Hk
  ihave #HI := (inv_recv PK K s.succ c) $$ HR
  iapply (Rounds.wp_wait_rest_token 𝒱₀ ER (sched PK) (c : Thread nD τ) none (κ := K (recvCell s.succ c)) (wpE_waitDma2_eq 𝒱₀ (c : Thread nD τ) none Set.univ)
    (Set.mem_univ _) () (O := owedFrom c n) (W := W) (R := 0) (m := 0) (T := ∅) (by rw [Nat.zero_add, expect_recv PK c s])) $$ [HL Hc HO Hat]
  · isplitr; · iexact HI
    isplitl [Hc]; · iexact Hc
    isplitl [HO]; · iexact HO
    isplitl [HL]; · iapply (mayWait_of c (.dma (recvSem s.succ)) n hn hlt) $$ HL
    iexact Hat
  iintro ⟨HO, Hat, -, Hpay⟩
  ihave H := (Entails.of_eq (rest_recv PK c s)) $$ Hpay
  iapply Hk
  isplitl [HO]; · iexists _; iexact HO
  isplitl [Hat]; · iexact Hat
  unfold recvPay
  iexact H

theorem sent_step (s : Fin 7)
    {src dst : Memref sig .tc .vmem S768x1024 .bf16} {k' : Fin 8} (edst : dst = slotM k') {sS : DmaSem sig} (esS : sS = sendSem s)
    {hsrc : src.view.WordExact} {hdst : dst.view.WordExact}
    {k : PUnit → Prog (TpuEff nD τ sig (Elt F) Λ₀ (c : Thread nD τ).2) α} {P} :
    iprop(records PK K ∗ cred (tallyAt (sendCell s c) () N) ∗ owesE (F := F) c 0 ∗ atPos ER (sendCell s c) 0 ∅ 0)
      ⊢ iprop((owesE c 0 ∗ atPos ER (sendCell s c) 1 ∅ 0 ∗ slotPts c (srcSlot s) (lent s) (ring PK c) -∗ wp frame (wpE (defs₀ (F := F)) 𝒱₀ (c : Thread nD τ) none) Set.univ (k ⟨⟩) P)
          -∗ wp frame (wpE (defs₀ (F := F)) 𝒱₀ (c : Thread nD τ) none) Set.univ (.op (.waitDma2 sS src dst hsrc hdst) k) P) := by
  subst edst esS
  unfold owesE
  iintro ⟨#HR, Hc, ⟨%W, HO⟩, Hat⟩ Hk
  ihave #HI := (inv_send PK K s c) $$ HR
  iapply (Rounds.wp_wait_rest_token 𝒱₀ ER (sched PK) (c : Thread nD τ) none (κ := K (sendCell s c)) (wpE_waitDma2_eq 𝒱₀ (c : Thread nD τ) none Set.univ)
    (Set.mem_univ _) () (O := 0) (W := W) (R := 0) (m := 0) (T := ∅) (by rw [Nat.zero_add, expect_send PK c s])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave H := (Entails.of_eq (rest_send PK c s)) $$ Hpay
  iapply Hk
  isplitl [HO]; · iexists _; iexact HO
  isplitl [Hat]; · iexact Hat
  unfold sendPay
  iexact H

end

/-! ## Giving the cells back -/

/-- A cell nobody will raise again gives its counter back at zero. -/
theorem close_at {g : GSem nD τ sig} (h : g ∈ barCells ∪ scCells) (r : ℕ) (hd : ∀ r', r ≤ r' → (sched PK).duties g r' = ∅) :
    iprop(records (F := F) PK K ∗ atPos ER g r ∅ 0) ⊢ iprop(|={Set.univ}=> semVal g 0) := by
  iintro ⟨#HR, Hat⟩
  ihave #HI := (inv_of PK K h) $$ HR
  imod (Rounds.cell_close ER (sched PK) (Set.mem_univ _) (fun h => h) (R := r) hd) $$ [Hat] with Hz
  · isplitr; · iexact HI
    iexact Hat
  imodintro
  iexact Hz

end Cert.KernelIdeal.Talk

end
-- ==== Proof.KernelIdeal.Attend.lean ====
/-
One packet of weights attended to: the queries, the loop over the head pairs, the accumulation; the stores of the own weights and
of the two halves of the result.
-/
module

public import proofs.«01_k».proof.Proof.KernelIdeal.Steps

@[expose] public section

noncomputable section

namespace Cert.KernelIdeal.Talk

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (PK : Dev nD → FVec F S768x1024 .bf16)

/-! ## The values -/

/-- The query weights of a packet. -/
def wqOf (W : FVec F S768x1024 .bf16) : FVec F S1x768x512 .bf16 := fun i =>
  W (ix2 (i 1) ⟨(i 2).val, by have h : (i 2).val < 512 := (i 2).isLt; omega⟩)
/-- The output weights of a packet, transposed. -/
def woOf (W : FVec F S768x1024 .bf16) : FVec F S1x768x512 .bf16 := fun i =>
  W (ix2 (i 1) ⟨512 + (i 2).val, by have h : (i 2).val < 512 := (i 2).isLt; omega⟩)

/-- The mask added to the scores. -/
def biasV : FVec F S512x512 .f32 := k0_pay61 k0_pay59 (iota .tc S512x512 32 [1] iota_S512x512_d1_w32) 64#32 k0_pay60 0#32

/-- The accumulator after the packet `W` of device `d`. -/
def accStep (bias : FVec F S512x512 .f32) (X : FVec F S1024x768 .bf16) (K V : FVec F S2x64x64x512 .bf16) (W : FVec F S768x1024 .bf16) (d : Dev nD)
    (acc : FVec F S1024x768 .f32) : FVec F S1024x768 .f32 :=
  k0_pay64 acc (ctxV bias (k0_pay62 X (wqOf W)) K V d) (woOf W)

/-- The accumulator of device `c` after the first `n` slots. -/
def accAt (X : FVec F S1024x768 .bf16) (K V : FVec F S2x64x64x512 .bf16) (c : Dev nD) : ℕ → FVec F S1024x768 .f32
  | 0 => k0_pay58
  | n + 1 => accStep biasV X K V (PK (srcDev (Fin.ofNat 8 n) c)) (srcDev (Fin.ofNat 8 n) c) (accAt X K V c n)

/-- Rows `512 b` and on of the accumulator. -/
def half (acc : FVec F S1024x768 .f32) (b : Fin 2) : FVec F S512x768 .f32 := fun j =>
  acc (ix2 ⟨512 * b.val + (j 0).val, by have h : (j 0).val < 512 := (j 0).isLt; omega⟩ (j 1))
/-- The result. -/
def outV (acc : FVec F S1024x768 .f32) : FVec F S2x512x768 .bf16 := fun i => k0_pay89 (half acc (i 0)) (ix3 0 (i 1) (i 2))

/-! ## Accesses of the slots -/

abbrev packM : Memref sig .tc .vmem S8x768x1024 .bf16 := Memref.whole cc0_scratch0
abbrev xM : Memref sig .tc .vmem S1024x768 .bf16 := Memref.whole cc0_stg0_0
abbrev accM : Memref sig .tc .vmem S1024x768 .f32 := Memref.whole cc0_scratch3
abbrev outM : Memref sig .tc .vmem S2x512x768 .bf16 := Memref.whole cc0_stg4_0

theorem slot_sub (k : Fin 8) {o size : Fin 3 → ℕ} (inb : ∀ a, o a + size a ≤ S8x768x1024.size a) (h0 : o 0 = k.val) (h1 : size 0 = 1) :
    packM.view.setOn (Rect.unit (s := S8x768x1024) o size inb).set ⊆ (slotM k).view.set := by
  intro i hi
  obtain ⟨j, hj, rfl⟩ := Finset.mem_map.mp hi
  have hm := Rect.mem_set_unit.mp hj 0
  refine (mem_slot k _).mpr (Fin.ext ?_)
  show (j 0).val = k.val
  omega

theorem read_wq (k : Fin 8) (c : Dev nD) (inb : ∀ a, (![k.val, 0, 0] : Fin 3 → ℕ) a + S1x768x512.size a ≤ S8x768x1024.size a) :
    packM.view.readAt (Elt F) (Rect.unit (s := S8x768x1024) ![k.val, 0, 0] S1x768x512.size inb).toLoadRect (ring PK c) = wqOf (PK (srcDev k c)) := by
  funext j
  refine (congrArg (ring PK c) (show _ = (ix3 k (j 1) ⟨(j 2).val, by have h : (j 2).val < 512 := (j 2).isLt; omega⟩ : S8x768x1024.Idx) from
    funext fun a => Fin.ext ?_)).trans rfl
  have h0 : (j 0).val < 1 := (j 0).isLt
  fin_cases a
  · show k.val + 1 * (j 0).val = k.val; omega
  · show 0 + 1 * (j 1).val = (j 1).val; omega
  · show 0 + 1 * (j 2).val = (j 2).val; omega

theorem read_wo (k : Fin 8) (c : Dev nD) (inb : ∀ a, (![k.val, 0, 512] : Fin 3 → ℕ) a + S1x768x512.size a ≤ S8x768x1024.size a) :
    packM.view.readAt (Elt F) (Rect.unit (s := S8x768x1024) ![k.val, 0, 512] S1x768x512.size inb).toLoadRect (ring PK c) = woOf (PK (srcDev k c)) := by
  funext j
  refine (congrArg (ring PK c) (show _ = (ix3 k (j 1) ⟨512 + (j 2).val, by have h : (j 2).val < 512 := (j 2).isLt; omega⟩ : S8x768x1024.Idx) from
    funext fun a => Fin.ext ?_)).trans rfl
  have h0 : (j 0).val < 1 := (j 0).isLt
  fin_cases a
  · show k.val + 1 * (j 0).val = k.val; omega
  · show 0 + 1 * (j 1).val = (j 1).val; omega
  · show 512 + 1 * (j 2).val = 512 + (j 2).val; omega

theorem write_own (c : Dev nD) (f : Buf (Elt F) ((c : Thread nD τ).loc cc0_scratch0)) (w : FVec F S1x768x1024 .bf16) (hw : ∀ x y, w (ix3 0 x y) = PK c (ix2 x y))
    (inb : ∀ a, (![0, 0, 0] : Fin 3 → ℕ) a + S1x768x1024.size a ≤ S8x768x1024.size a) (i : S8x768x1024.Idx) (hi : i ∈ (slotM 0).view.set) :
    (packM.access (Rect.unit (s := S8x768x1024) ![0, 0, 0] S1x768x1024.size inb)).write (Elt F) f w Finset.univ i = ring PK c i := by
  have h0 := (mem_slot _ i).mp hi
  have e : i = (packM.access (Rect.unit (s := S8x768x1024) ![0, 0, 0] S1x768x1024.size inb)).emb (ix3 0 (i 1) (i 2)) := by
    funext a
    apply Fin.ext
    refine Eq.trans ?_ (ValueKit.view_emb_slice_whole_unit_val cc0_scratch0 _ _ _ _ a).symm
    fin_cases a
    · exact (congrArg Fin.val h0).trans rfl
    · show (i 1).val = 0 + (i 1).val; omega
    · show (i 2).val = 0 + (i 2).val; omega
  refine (congrArg _ e).trans ((View.write_emb_of_mem _ _ (Finset.mem_univ _)).trans ((hw _ _).trans ?_))
  show PK c _ = PK (srcDev (i 0) c) _
  rw [h0, srcDev_zero]

theorem pay57_at (W : FVec F S768x1024 .bf16) (x : Fin 768) (y : Fin 1024) : k0_pay57 W (ix3 0 x y) = W (ix2 x y) := by
  unfold k0_pay57
  simp only [shapeCast_self]
  exact shapeCast_ab_1ab_apply W _ 0 x y

theorem write_out (f : FVec F S2x512x768 .bf16) (acc : FVec F S1024x768 .f32)
    (inb₀ : ∀ a, (![0, 0, 0] : Fin 3 → ℕ) a + S1x512x768.size a ≤ S2x512x768.size a) (inb₁ : ∀ a, (![1, 0, 0] : Fin 3 → ℕ) a + S1x512x768.size a ≤ S2x512x768.size a) :
    (outM.access (Rect.unit (s := S2x512x768) ![1, 0, 0] S1x512x768.size inb₁)).write (Elt F)
      ((outM.access (Rect.unit (s := S2x512x768) ![0, 0, 0] S1x512x768.size inb₀)).write (Elt F) f (k0_pay89 (half acc 0)) Finset.univ)
      (k0_pay89 (half acc 1)) Finset.univ = outV acc := by
  refine funext fun (i : S2x512x768.Idx) => ?_
  by_cases h : (show Fin 2 from i 0) = 1
  · have e : i = (outM.access (Rect.unit (s := S2x512x768) ![1, 0, 0] S1x512x768.size inb₁)).emb (ix3 0 (i 1) (i 2)) := by
      funext a
      apply Fin.ext
      refine Eq.trans ?_ (ValueKit.view_emb_slice_whole_unit_val cc0_stg4_0 _ _ _ _ a).symm
      fin_cases a
      · exact (congrArg Fin.val h).trans rfl
      · show (i 1).val = 0 + (i 1).val; omega
      · show (i 2).val = 0 + (i 2).val; omega
    refine (congrArg _ e).trans ((View.write_emb_of_mem _ _ (Finset.mem_univ _)).trans ?_)
    exact congrArg (fun b => k0_pay89 (half acc b) (ix3 0 (i 1) (i 2))) h.symm
  · have h0 : (show Fin 2 from i 0) = 0 := by
      have := (i 0).isLt
      have h2 : (i 0).val < 2 := (i 0).isLt
      have : (i 0).val ≠ 1 := fun e => h (Fin.ext e)
      exact Fin.ext (by show (i 0).val = (0 : Fin 2).val; rw [show (0 : Fin 2).val = 0 from rfl]; omega)
    have e : i = (outM.access (Rect.unit (s := S2x512x768) ![0, 0, 0] S1x512x768.size inb₀)).emb (ix3 0 (i 1) (i 2)) := by
      funext a
      apply Fin.ext
      refine Eq.trans ?_ (ValueKit.view_emb_slice_whole_unit_val cc0_stg4_0 _ _ _ _ a).symm
      fin_cases a
      · exact (congrArg Fin.val h0).trans rfl
      · show (i 1).val = 0 + (i 1).val; omega
      · show (i 2).val = 0 + (i 2).val; omega
    refine (View.write_of_not_mem _ _ _ fun hm => ?_).trans ?_
    · obtain ⟨j, -, hj⟩ := Finset.mem_map.mp hm
      have e1 := ValueKit.view_emb_slice_whole_unit_val cc0_stg4_0 ![1, 0, 0] S1x512x768.size inb₁ j 0
      have e2 : (i 0).val = 1 + (j 0).val := (congrArg (fun i : S2x512x768.Idx => (i 0).val) hj).symm.trans e1
      have : (i 0).val = 0 := congrArg Fin.val h0
      omega
    refine (congrArg _ e).trans ((View.write_emb_of_mem _ _ (Finset.mem_univ _)).trans ?_)
    exact congrArg (fun b => k0_pay89 (half acc b) (ix3 0 (i 1) (i 2))) h0.symm

theorem read_half (acc : FVec F S1024x768 .f32) (b : Fin 2) (inb : ∀ a, (![512 * b.val, 0] : Fin 2 → ℕ) a + S512x768.size a ≤ S1024x768.size a) :
    accM.view.readAt (Elt F) (Rect.unit (s := S1024x768) ![512 * b.val, 0] S512x768.size inb).toLoadRect acc = half acc b := by
  funext j
  refine congrArg acc (funext fun a => Fin.ext ?_)
  fin_cases a
  · show 512 * b.val + 1 * (j 0).val = 512 * b.val + (j 0).val; omega
  · show 0 + 1 * (j 1).val = (j 1).val; omega

theorem hz2 : (![0, 0] : Fin 2 → ℕ) = fun _ => 0 := by funext a; fin_cases a <;> rfl

/-! ## One packet -/

/-- What every packet uses besides its slot and the accumulator. -/
def attRes (c : Dev nD) (X : FVec F S1024x768 .bf16) (K V : FVec F S2x64x64x512 .bf16) : sProp 𝕄 :=
  iprop(((c : Thread nD τ).loc cc0_stg0_0 ↦{fullShare} X) ∗ ((c : Thread nD τ).loc cc0_stg2_0 ↦{fullShare} K) ∗
    ((c : Thread nD τ).loc cc0_stg3_0 ↦{fullShare} V) ∗ (∃ f, ((c : Thread nD τ).loc cc0_scratch1 ↦{fullShare} f)) ∗
    (∃ f, ((c : Thread nD τ).loc cc0_scratch2 ↦{fullShare} f)))

def accPts (c : Dev nD) (acc : FVec F S1024x768 .f32) : sProp 𝕄 := ((c : Thread nD τ).loc cc0_scratch3 ↦{fullShare} acc)

section

variable (c : Dev nD)

theorem attend (bias : FVec F S512x512 .f32) (X : FVec F S1024x768 .bf16) (K V : FVec F S2x64x64x512 .bf16) (acc : FVec F S1024x768 .f32)
    (k : Fin 8) (kn : ℕ) (hk : k.val = kn) (q : PosShare TreeShare)
    (l : Scf.Loop 32) (hok : l.OK) (htr : l.trips = 4) (body : FVec F S1024x768 .bf16 → FVec F S1x768x512 .bf16 → Fin l.trips → Unit → Prog (TpuEff nD τ sig (Elt F) Λ₀ .tc) Unit)
    (hbody : ∀ x w j u, tripInv c (k0_pay62 X (wqOf (PK (srcDev k c)))) K V (ctxV bias (k0_pay62 X (wqOf (PK (srcDev k c)))) K V (srcDev k c)) j.val
      ⊢ wp frame (wpE (defs₀ (F := F)) 𝒱₀ (c : Thread nD τ) none) Set.univ (body x w j u)
          (fun _ => tripInv c (k0_pay62 X (wqOf (PK (srcDev k c)))) K V (ctxV bias (k0_pay62 X (wqOf (PK (srcDev k c)))) K V (srcDev k c)) (j.val + 1)))
    (pq : FVec F S1024x768 .bf16 → FVec F S1x768x512 .bf16 → FVec F S1024x512 .bf16) (hpq : pq = k0_pay62)
    (pa : FVec F S1024x768 .f32 → FVec F S1024x512 .bf16 → FVec F S1x768x512 .bf16 → FVec F S1024x768 .f32) (hpa : pa = k0_pay64)
    {ix : ∀ a, (![0, 0] : Fin 2 → ℕ) a + S1024x768.size a ≤ S1024x768.size a} {iq : ∀ a, (![0, 0] : Fin 2 → ℕ) a + S1024x512.size a ≤ S1024x512.size a}
    {iw : ∀ a, (![kn, 0, 0] : Fin 3 → ℕ) a + S1x768x512.size a ≤ S8x768x1024.size a}
    {io : ∀ a, (![kn, 0, 512] : Fin 3 → ℕ) a + S1x768x512.size a ≤ S8x768x1024.size a}
    {hl1 hl2 hl3 hl4 hl5 hl6 hl7 hs1 hs2 hm1 hm2}
    {α : Type} {kk : FVec F S1024x768 .f32 → FVec F S1024x512 .bf16 → FVec F S1x768x512 .bf16 → PUnit → Prog (TpuEff nD τ sig (Elt F) Λ₀ .tc) α} {P} :
    iprop(attRes c X K V ∗ slotPts c k q (ring PK c) ∗ accPts c acc)
      ⊢ iprop((∀ a z w, attRes c X K V ∗ slotPts c k q (ring PK c) ∗ accPts c (accStep bias X K V (PK (srcDev k c)) (srcDev k c) acc)
            -∗ wp frame (wpE (defs₀ (F := F)) 𝒱₀ (c : Thread nD τ) none) Set.univ (kk a z w ⟨⟩) P)
          -∗ wp frame (wpE (defs₀ (F := F)) 𝒱₀ (c : Thread nD τ) none) Set.univ
            (.op (.load (e := .bf16) xM (Rect.unit (s := S1024x768) ![0, 0] S1024x768.size ix).toLoadRect hl1) fun (x : FVec F S1024x768 .bf16) =>
             .op (.load (e := .bf16) packM (Rect.unit (s := S8x768x1024) ![kn, 0, 0] S1x768x512.size iw).toLoadRect hl2) fun (w : FVec F S1x768x512 .bf16) =>
             .op (.load (e := .bf16) qM (Rect.unit (s := S1024x512) ![0, 0] S1024x512.size iq).toLoadRect hl3) fun _ =>
             .op (.store qM (Rect.unit (s := S1024x512) ![0, 0] S1024x512.size iq) (pq x w) Finset.univ hs1 hm1) fun _ =>
             (Scf.Loop.for l hok ⟨⟩ (body x w)) >>= fun _ =>
             .op (.load (e := .f32) accM (Rect.unit (s := S1024x768) ![0, 0] S1024x768.size ix).toLoadRect hl4) fun (a : FVec F S1024x768 .f32) =>
             .op (.load (e := .bf16) ctxM (Rect.unit (s := S1024x512) ![0, 0] S1024x512.size iq).toLoadRect hl5) fun (z : FVec F S1024x512 .bf16) =>
             .op (.load (e := .bf16) packM (Rect.unit (s := S8x768x1024) ![kn, 0, 512] S1x768x512.size io).toLoadRect hl6) fun (w : FVec F S1x768x512 .bf16) =>
             .op (.load (e := .f32) accM (Rect.unit (s := S1024x768) ![0, 0] S1024x768.size ix).toLoadRect hl7) fun _ =>
             .op (.store accM (Rect.unit (s := S1024x768) ![0, 0] S1024x768.size ix) (pa a z w) Finset.univ hs2 hm2) (kk a z w)) P) := by
  subst hpq hpa hk
  unfold attRes accPts slotPts
  iintro ⟨⟨Hx, Hk, Hv, ⟨%fq, Hq⟩, ⟨%fc, Hc⟩⟩, Hs, Ha⟩ HK
  iapply (wp_load 𝒱₀ (c : Thread nD τ) none Set.univ (m := xM) (Finset.subset_univ _)) $$ Hx; iintro Hx
  iapply (wp_load 𝒱₀ (c : Thread nD τ) none Set.univ (m := packM) (slot_sub k iw rfl rfl)) $$ Hs; iintro Hs
  iapply (wp_load 𝒱₀ (c : Thread nD τ) none Set.univ (m := qM) (Finset.subset_univ _)) $$ Hq; iintro Hq
  iapply (wp_store 𝒱₀ (c : Thread nD τ) none Set.univ (m := qM) (r := Rect.unit (s := S1024x512) ![0, 0] S1024x512.size iq) (Mk := Finset.univ) (Finset.subset_univ _)) $$ Hq; iintro Hq
  have e1 : (qM.access (Rect.unit (s := S1024x512) ![0, 0] S1024x512.size iq)).write (Elt F) fq
      (k0_pay62 (xM.view.readAt (Elt F) (Rect.unit (s := S1024x768) ![0, 0] S1024x768.size ix).toLoadRect X)
        (packM.view.readAt (Elt F) (Rect.unit (s := S8x768x1024) ![k.val, 0, 0] S1x768x512.size iw).toLoadRect (ring PK c))) Finset.univ
      = k0_pay62 X (wqOf (PK (srcDev k c))) :=
    (Memref.write_access_unit_zero_univ (Elt F) cc0_scratch1 hz2 iq fq _).trans
      (congrArg₂ k0_pay62 (Memref.readAt_unit_zero (Elt F) cc0_stg0_0 hz2 ix X) (read_wq PK k c iw))
  ihave Hq := (Entails.of_eq (congrArg (fun f => ((c : Thread nD τ).loc cc0_scratch1 ↦{fullShare} f : sProp 𝕄)) e1)) $$ Hq
  iapply (loop_wp c (srcDev k c) bias (k0_pay62 X (wqOf (PK (srcDev k c)))) K V l hok htr _ (hbody _ _)) $$ [Hq Hk Hv Hc]
  · unfold tripRes
    isplitl [Hq Hk Hv]
    · isplitl [Hq]; · iexact Hq
      isplitl [Hk]; · iexact Hk
      iexact Hv
    · iexists fc; iexact Hc
  unfold tripRes
  iintro ⟨⟨Hq, Hk, Hv⟩, Hc⟩
  iapply (wp_load 𝒱₀ (c : Thread nD τ) none Set.univ (m := accM) (Finset.subset_univ _)) $$ Ha; iintro Ha
  iapply (wp_load 𝒱₀ (c : Thread nD τ) none Set.univ (m := ctxM) (Finset.subset_univ _)) $$ Hc; iintro Hc
  iapply (wp_load 𝒱₀ (c : Thread nD τ) none Set.univ (m := packM) (slot_sub k io rfl rfl)) $$ Hs; iintro Hs
  iapply (wp_load 𝒱₀ (c : Thread nD τ) none Set.univ (m := accM) (Finset.subset_univ _)) $$ Ha; iintro Ha
  iapply (wp_store 𝒱₀ (c : Thread nD τ) none Set.univ (m := accM) (r := Rect.unit (s := S1024x768) ![0, 0] S1024x768.size ix) (Mk := Finset.univ) (Finset.subset_univ _)) $$ Ha; iintro Ha
  have e2 : (accM.access (Rect.unit (s := S1024x768) ![0, 0] S1024x768.size ix)).write (Elt F) acc
      (k0_pay64 (accM.view.readAt (Elt F) (Rect.unit (s := S1024x768) ![0, 0] S1024x768.size ix).toLoadRect acc)
        (ctxM.view.readAt (Elt F) (Rect.unit (s := S1024x512) ![0, 0] S1024x512.size iq).toLoadRect (ctxV bias (k0_pay62 X (wqOf (PK (srcDev k c)))) K V (srcDev k c)))
        (packM.view.readAt (Elt F) (Rect.unit (s := S8x768x1024) ![k.val, 0, 512] S1x768x512.size io).toLoadRect (ring PK c))) Finset.univ
      = accStep bias X K V (PK (srcDev k c)) (srcDev k c) acc :=
    (Memref.write_access_unit_zero_univ (Elt F) cc0_scratch3 hz2 ix acc _).trans
      ((congrArg₂ (fun a w => k0_pay64 a _ w) (Memref.readAt_unit_zero (Elt F) cc0_scratch3 hz2 ix acc) (read_wo PK k c io)).trans
        (congrArg (fun z => k0_pay64 acc z (woOf (PK (srcDev k c)))) (Memref.readAt_unit_zero (Elt F) cc0_scratch2 hz2 iq _)))
  ihave Ha := (Entails.of_eq (congrArg (fun f => ((c : Thread nD τ).loc cc0_scratch3 ↦{fullShare} f : sProp 𝕄)) e2)) $$ Ha
  iapply HK
  isplitl [Hx Hk Hv Hq Hc]
  · isplitl [Hx]; · iexact Hx
    isplitl [Hk]; · iexact Hk
    isplitl [Hv]; · iexact Hv
    isplitl [Hq]; · iexists _; iexact Hq
    iexists _; iexact Hc
  isplitl [Hs]; · iexact Hs
  iexact Ha

end

end Cert.KernelIdeal.Talk

end
-- ==== Proof.KernelIdeal.Body0.lean ====
/-
The body of the call, run on a device.
-/
module

public import proofs.«01_k».proof.Proof.KernelIdeal.Attend

@[expose] public section

noncomputable section

namespace Cert.KernelIdeal.Talk

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (PK : Dev nD → FVec F S768x1024 .bf16)

variable (K : GSem nD τ sig → ℕ)

/-! ## The slots -/

theorem slot_share (c : Dev nD) (k : Fin 8) (q : PosShare TreeShare) (f : Buf (Elt F) ((c : Thread nD τ).loc cc0_scratch0)) :
    (slotPts c k q f : sProp 𝕄) ⊣⊢ iprop(slotPts c k q.left f ∗ slotPts c k q.right f) := by
  unfold slotPts
  exact pointsTo_share (PosShare.mem_left_op_right q)

def slotSet (k : Fin 8) : Finset S8x768x1024.Idx := (slotM k).view.set

theorem slots_cover : (Finset.univ : Finset (Fin 8)).biUnion slotSet = Finset.univ :=
  Finset.eq_univ_of_forall fun i => Finset.mem_biUnion.mpr ⟨i 0, Finset.mem_univ _, (mem_slot _ i).mpr rfl⟩

theorem slots_disjoint {a b : Fin 8} (h : a ≠ b) : Disjoint (slotSet a) (slotSet b) :=
  Finset.disjoint_left.mpr fun i hi hj => h (((mem_slot a i).mp hi).symm.trans ((mem_slot b i).mp hj))

/-- The packets' buffer is its eight slots. -/
theorem packs_slots (c : Dev nD) (f : Buf (Elt F) ((c : Thread nD τ).loc cc0_scratch0)) :
    ((c : Thread nD τ).loc cc0_scratch0 ↦{fullShare} f : sProp 𝕄) = bigSep (Finset.univ : Finset (Fin 8)) fun k => slotPts c k fullShare f := by
  unfold slotPts
  exact (congrArg (fun S : Finset S8x768x1024.Idx => ((c : Thread nD τ).loc cc0_scratch0 ↦[S]{fullShare} f : sProp 𝕄)) slots_cover.symm).trans
    (pointsTo_biUnion (ℓ := (c : Thread nD τ).loc cc0_scratch0) Finset.univ slotSet fun a _ b _ h => slots_disjoint h)

theorem seven (Φ : Fin 7 → sProp 𝕄) : bigSep (Finset.univ : Finset (Fin 7)) Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem eight (Φ : Fin 8 → sProp 𝕄) : bigSep (Finset.univ : Finset (Fin 8)) Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem three (Φ : Fin 3 → sProp 𝕄) : bigSep (Finset.univ : Finset (Fin 3)) Φ = iprop(Φ 0 ∗ Φ 1 ∗ Φ 2) :=
  bigSep_univ_eq_bigSepL [0, 1, 2] (by decide) (by decide) Φ

/-- A slot to hand over, and that its cell may be raised. -/
def handSlot (s : Fin 7) (c : Dev nD) : sProp 𝕄 := iprop((∃ f, slotPts c s.succ fullShare f) ∗ reached ER (recvCell s.succ c) 0)

theorem handed_left (c : Dev nD) : handed (F := F) 0 c = iprop(handSlot 0 c ∗ handSlot 3 c ∗ handSlot 5 c) :=
  bigSep_eq_bigSepL_of_eq [0, 3, 5] (by decide) (by decide) _
theorem handed_right (c : Dev nD) : handed (F := F) 1 c = iprop(handSlot 1 c ∗ handSlot 4 c ∗ handSlot 6 c) :=
  bigSep_eq_bigSepL_of_eq [1, 4, 6] (by decide) (by decide) _
theorem handed_anti (c : Dev nD) : handed (F := F) 2 c = iprop(handSlot 2 c) :=
  bigSep_eq_bigSepL_of_eq [2] (by decide) (by decide) _

/-! ## The first and the last stores -/

section

variable (c : Dev nD)

/-- The own weights go into slot 0; the accumulator starts at zero. -/
theorem own_step (acc : Buf (Elt F) ((c : Thread nD τ).loc cc0_scratch3)) (f : Buf (Elt F) ((c : Thread nD τ).loc cc0_scratch0))
    {ip : ∀ a, (![0, 0] : Fin 2 → ℕ) a + S768x1024.size a ≤ S768x1024.size a}
    {ix : ∀ a, (![0, 0] : Fin 2 → ℕ) a + S1024x768.size a ≤ S1024x768.size a}
    {is : ∀ a, (![0, 0, 0] : Fin 3 → ℕ) a + S1x768x1024.size a ≤ S8x768x1024.size a}
    {hl1 hl2 hl3 hs1 hs2 hm1 hm2}
    {α : Type} {kk : PUnit → Prog (TpuEff nD τ sig (Elt F) Λ₀ .tc) α} {P} :
    iprop(((c : Thread nD τ).loc cc0_stg1_0 ↦{fullShare} PK c) ∗ slotPts c 0 fullShare f ∗ ((c : Thread nD τ).loc cc0_scratch3 ↦{fullShare} acc))
      ⊢ iprop((((c : Thread nD τ).loc cc0_stg1_0 ↦{fullShare} PK c) ∗ slotPts c 0 fullShare (ring PK c) ∗ accPts c k0_pay58
            -∗ wp frame (wpE (defs₀ (F := F)) 𝒱₀ (c : Thread nD τ) none) Set.univ (kk ⟨⟩) P)
          -∗ wp frame (wpE (defs₀ (F := F)) 𝒱₀ (c : Thread nD τ) none) Set.univ
            (.op (.load (e := .bf16) (Memref.whole cc0_stg1_0 : Memref sig .tc .vmem S768x1024 .bf16) (Rect.unit (s := S768x1024) ![0, 0] S768x1024.size ip).toLoadRect hl1) fun (v : FVec F S768x1024 .bf16) =>
             .op (.load (e := .bf16) packM (Rect.unit (s := S8x768x1024) ![0, 0, 0] S1x768x1024.size is).toLoadRect hl2) fun _ =>
             .op (.store packM (Rect.unit (s := S8x768x1024) ![0, 0, 0] S1x768x1024.size is) (k0_pay57 v) Finset.univ hs1 hm1) fun _ =>
             .op (.load (e := .f32) accM (Rect.unit (s := S1024x768) ![0, 0] S1024x768.size ix).toLoadRect hl3) fun _ =>
             .op (.store accM (Rect.unit (s := S1024x768) ![0, 0] S1024x768.size ix) k0_pay58 Finset.univ hs2 hm2) kk) P) := by
  unfold accPts slotPts
  iintro ⟨Hp, Hs, Ha⟩ HK
  iapply (wp_load 𝒱₀ (c : Thread nD τ) none Set.univ (m := Memref.whole cc0_stg1_0) (Finset.subset_univ _)) $$ Hp; iintro Hp
  iapply (wp_load 𝒱₀ (c : Thread nD τ) none Set.univ (m := packM) (slot_sub 0 is rfl rfl)) $$ Hs; iintro Hs
  iapply (wp_store 𝒱₀ (c : Thread nD τ) none Set.univ (m := packM) (r := Rect.unit (s := S8x768x1024) ![0, 0, 0] S1x768x1024.size is) (Mk := Finset.univ)
    ((Memref.setOn_access_subset_setOn _ _ _).trans (slot_sub 0 is rfl rfl))) $$ Hs; iintro Hs
  have e1 : (Memref.whole cc0_stg1_0 : Memref sig .tc .vmem S768x1024 .bf16).view.readAt (Elt F) (Rect.unit (s := S768x1024) ![0, 0] S768x1024.size ip).toLoadRect (PK c) = PK c :=
    Memref.readAt_unit_zero (Elt F) cc0_stg1_0 hz2 ip (PK c)
  have e2 : ∀ i ∈ (slotM 0).view.set, (packM.access (Rect.unit (s := S8x768x1024) ![0, 0, 0] S1x768x1024.size is)).write (Elt F) f
      (k0_pay57 ((Memref.whole cc0_stg1_0 : Memref sig .tc .vmem S768x1024 .bf16).view.readAt (Elt F) (Rect.unit (s := S768x1024) ![0, 0] S768x1024.size ip).toLoadRect (PK c))) Finset.univ i
      = ring PK c i := fun i hi => write_own PK c f _ (fun x y => (pay57_at _ x y).trans (congrFun e1 (ix2 x y))) is i hi
  ihave Hs := (Entails.of_eq (pointsTo_congr (ℓ := (slotM 0).view.loc (c : Thread nD τ)) (q := fullShare) e2)) $$ Hs
  iapply (wp_load 𝒱₀ (c : Thread nD τ) none Set.univ (m := accM) (Finset.subset_univ _)) $$ Ha; iintro Ha
  iapply (wp_store 𝒱₀ (c : Thread nD τ) none Set.univ (m := accM) (r := Rect.unit (s := S1024x768) ![0, 0] S1024x768.size ix) (Mk := Finset.univ) (Finset.subset_univ _)) $$ Ha; iintro Ha
  ihave Ha := (Entails.of_eq (congrArg (fun f => ((c : Thread nD τ).loc cc0_scratch3 ↦{fullShare} f : sProp 𝕄)) (Memref.write_access_unit_zero_univ (Elt F) cc0_scratch3 hz2 ix acc k0_pay58))) $$ Ha
  iapply HK
  isplitl [Hp]; · iexact Hp
  isplitl [Hs]; · iexact Hs
  iexact Ha

/-- The result is written, one half after the other. -/
theorem out_step (acc : FVec F S1024x768 .f32) (f : Buf (Elt F) ((c : Thread nD τ).loc cc0_stg4_0))
    (p₀ p₁ : FVec F S512x768 .f32 → FVec F S1x512x768 .bf16) (h₀ : p₀ = k0_pay89) (h₁ : p₁ = k0_pay89)
    {i0 : ∀ a, (![0, 0] : Fin 2 → ℕ) a + S512x768.size a ≤ S1024x768.size a}
    {i1 : ∀ a, (![512, 0] : Fin 2 → ℕ) a + S512x768.size a ≤ S1024x768.size a}
    {o0 : ∀ a, (![0, 0, 0] : Fin 3 → ℕ) a + S1x512x768.size a ≤ S2x512x768.size a}
    {o1 : ∀ a, (![1, 0, 0] : Fin 3 → ℕ) a + S1x512x768.size a ≤ S2x512x768.size a}
    {hl1 hl2 hl3 hl4 hs1 hs2 hm1 hm2}
    {α : Type} {kk : PUnit → Prog (TpuEff nD τ sig (Elt F) Λ₀ .tc) α} {P} :
    iprop(accPts c acc ∗ ((c : Thread nD τ).loc cc0_stg4_0 ↦{fullShare} f))
      ⊢ iprop((accPts c acc ∗ ((c : Thread nD τ).loc cc0_stg4_0 ↦{fullShare} outV acc)
            -∗ wp frame (wpE (defs₀ (F := F)) 𝒱₀ (c : Thread nD τ) none) Set.univ (kk ⟨⟩) P)
          -∗ wp frame (wpE (defs₀ (F := F)) 𝒱₀ (c : Thread nD τ) none) Set.univ
            (.op (.load (e := .f32) accM (Rect.unit (s := S1024x768) ![0, 0] S512x768.size i0).toLoadRect hl1) fun (v : FVec F S512x768 .f32) =>
             .op (.load (e := .bf16) outM (Rect.unit (s := S2x512x768) ![0, 0, 0] S1x512x768.size o0).toLoadRect hl2) fun _ =>
             .op (.store outM (Rect.unit (s := S2x512x768) ![0, 0, 0] S1x512x768.size o0) (p₀ v) Finset.univ hs1 hm1) fun _ =>
             .op (.load (e := .f32) accM (Rect.unit (s := S1024x768) ![512, 0] S512x768.size i1).toLoadRect hl3) fun (w : FVec F S512x768 .f32) =>
             .op (.load (e := .bf16) outM (Rect.unit (s := S2x512x768) ![1, 0, 0] S1x512x768.size o1).toLoadRect hl4) fun _ =>
             .op (.store outM (Rect.unit (s := S2x512x768) ![1, 0, 0] S1x512x768.size o1) (p₁ w) Finset.univ hs2 hm2) kk) P) := by
  subst h₀ h₁
  unfold accPts
  iintro ⟨Ha, Ho⟩ HK
  iapply (wp_load 𝒱₀ (c : Thread nD τ) none Set.univ (m := accM) (Finset.subset_univ _)) $$ Ha; iintro Ha
  iapply (wp_load 𝒱₀ (c : Thread nD τ) none Set.univ (m := outM) (Finset.subset_univ _)) $$ Ho; iintro Ho
  iapply (wp_store 𝒱₀ (c : Thread nD τ) none Set.univ (m := outM) (r := Rect.unit (s := S2x512x768) ![0, 0, 0] S1x512x768.size o0) (Mk := Finset.univ) (Finset.subset_univ _)) $$ Ho; iintro Ho
  iapply (wp_load 𝒱₀ (c : Thread nD τ) none Set.univ (m := accM) (Finset.subset_univ _)) $$ Ha; iintro Ha
  iapply (wp_load 𝒱₀ (c : Thread nD τ) none Set.univ (m := outM) (Finset.subset_univ _)) $$ Ho; iintro Ho
  iapply (wp_store 𝒱₀ (c : Thread nD τ) none Set.univ (m := outM) (r := Rect.unit (s := S2x512x768) ![1, 0, 0] S1x512x768.size o1) (Mk := Finset.univ) (Finset.subset_univ _)) $$ Ho; iintro Ho
  have e : (outM.access (Rect.unit (s := S2x512x768) ![1, 0, 0] S1x512x768.size o1)).write (Elt F)
      ((outM.access (Rect.unit (s := S2x512x768) ![0, 0, 0] S1x512x768.size o0)).write (Elt F) f
        (k0_pay89 (accM.view.readAt (Elt F) (Rect.unit (s := S1024x768) ![0, 0] S512x768.size i0).toLoadRect acc)) Finset.univ)
      (k0_pay89 (accM.view.readAt (Elt F) (Rect.unit (s := S1024x768) ![512, 0] S512x768.size i1).toLoadRect acc)) Finset.univ = outV acc := by
    have r0 := read_half acc 0 i0
    have r1 := read_half acc 1 i1
    exact (congrArg₂ (fun u v => (outM.access (Rect.unit (s := S2x512x768) ![1, 0, 0] S1x512x768.size o1)).write (Elt F)
      ((outM.access (Rect.unit (s := S2x512x768) ![0, 0, 0] S1x512x768.size o0)).write (Elt F) f (k0_pay89 u) Finset.univ) (k0_pay89 v) Finset.univ) r0 r1).trans
      (write_out f acc o0 o1)
  ihave Ho := (Entails.of_eq (congrArg (fun f => ((c : Thread nD τ).loc cc0_stg4_0 ↦{fullShare} f : sProp 𝕄)) e)) $$ Ho
  iapply HK
  isplitl [Ha]; · iexact Ha
  iexact Ho

end

end Cert.KernelIdeal.Talk

end
-- ==== Proof.KernelIdeal.SegA.lean ====
/-
Stretches of the body: the sends of the own packet, its turn, the neighbours' packets.
-/
module

public import proofs.«01_k».proof.Proof.KernelIdeal.Body0

@[expose] public section

noncomputable section

namespace Cert.KernelIdeal.Talk

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (PK : Dev nD → FVec F S768x1024 .bf16)

variable (K : GSem nD τ sig → ℕ) (c : Dev nD) (X : FVec F S1024x768 .bf16) (KT VT : FVec F S2x64x64x512 .bf16)

set_option maxRecDepth 16384 in
set_option maxHeartbeats 800000 in
/-- The first three sends. -/
theorem talk_first (v4 v7 v9 w : BitVec 32) {α : Type} {k : PUnit → Prog (TpuEff nD τ sig (Elt F) Λ₀ .tc) α} {P : α → sProp 𝕄} :
    iprop(records PK K ∗ levAts L lv ∗ owesE c (owedFrom c 7) ∗ slotPts c 0 fullShare (ring PK c) ∗ give 0 c ∗ give 1 c ∗ give 2 c ∗ sendTok c 0 ∗ sendTok c 1 ∗ sendTok c 2)
      ⊢ iprop((owesE c (owedFrom c 4) ∗ slotPts c 0 fullShare.right.right.right (ring PK c) ∗ cred (tallyAt (sendCell 0 c) () N) ∗ cred (tallyAt (sendCell 1 c) () N) ∗ cred (tallyAt (sendCell 2 c) () N) -∗ wp frame (wpE (defs₀ (F := F)) 𝒱₀ (c : Thread nD τ) none) Set.univ (k ⟨⟩) P)
          -∗ wp frame (wpE (defs₀ (F := F)) 𝒱₀ (c : Thread nD τ) none) Set.univ ((k0_part20 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v4 v7 v9 w) >>= k) P) := by
  iintro ⟨#HR, #HL, HO, Hs0, Hg0, Hg1, Hg2, Htk0, Htk1, Htk2⟩ Hk
  rw [k0_part20_eq_skeleton]; unfold k0_part20_skel
  simp only [semSignalWord, semWaitWord, Prog.lift, Prog.bind_op, Prog.bind_ret, Prog.bind_assoc, Prog.pure_eq_ret, wp_deviceId]
  ihave ⟨Hl0, Hs0⟩ := (slot_share (F := F) c 0 fullShare (ring PK c)).1 $$ Hs0
  iapply (send_step PK K c 0 6 (by decide) (Fin.ext (k0_dev4_eq c)) rfl rfl rfl rfl) $$ [Hl0 Hg0 HO Htk0]
  · isplitr; · iexact HR
    isplitl [Hl0]; · iexact Hl0
    isplitl [Hg0]; · iexact Hg0
    isplitl [HO]; · iexact HO
    iexact Htk0
  iintro ⟨HO, Hcs0⟩
  ihave ⟨Hl0, Hs0⟩ := (slot_share (F := F) c 0 fullShare.right (ring PK c)).1 $$ Hs0
  iapply (send_step PK K c 1 5 (by decide) (Fin.ext (k0_dev5_eq c)) rfl rfl rfl rfl) $$ [Hl0 Hg1 HO Htk1]
  · isplitr; · iexact HR
    isplitl [Hl0]; · iexact Hl0
    isplitl [Hg1]; · iexact Hg1
    isplitl [HO]; · iexact HO
    iexact Htk1
  iintro ⟨HO, Hcs1⟩
  ihave ⟨Hl0, Hs0⟩ := (slot_share (F := F) c 0 (fullShare.right).right (ring PK c)).1 $$ Hs0
  iapply (send_step PK K c 2 4 (by decide) (Fin.ext (k0_dev6_eq c)) rfl rfl rfl rfl) $$ [Hl0 Hg2 HO Htk2]
  · isplitr; · iexact HR
    isplitl [Hl0]; · iexact Hl0
    isplitl [Hg2]; · iexact Hg2
    isplitl [HO]; · iexact HO
    iexact Htk2
  iintro ⟨HO, Hcs2⟩
  iapply Hk
  isplitl [HO]; · iexact HO
  isplitl [Hs0]; · iexact Hs0
  isplitl [Hcs0]; · iexact Hcs0
  isplitl [Hcs1]; · iexact Hcs1
  iexact Hcs2

set_option maxRecDepth 16384 in
set_option maxHeartbeats 800000 in
/-- The own packet. -/
theorem talk_own (v2 v4 : BitVec 32) {α : Type} {k : PUnit → Prog (TpuEff nD τ sig (Elt F) Λ₀ .tc) α} {P : α → sProp 𝕄} :
    iprop(records PK K ∗ levAts L lv ∗ attRes c X KT VT ∗ slotPts c 0 fullShare.right.right.right (ring PK c) ∗ accPts c (accAt PK X KT VT c 0))
      ⊢ iprop((attRes c X KT VT ∗ slotPts c 0 fullShare.right.right.right (ring PK c) ∗ accPts c (accAt PK X KT VT c 1) -∗ wp frame (wpE (defs₀ (F := F)) 𝒱₀ (c : Thread nD τ) none) Set.univ (k ⟨⟩) P)
          -∗ wp frame (wpE (defs₀ (F := F)) 𝒱₀ (c : Thread nD τ) none) Set.univ ((k0_part21 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v2 v4 biasV) >>= k) P) := by
  iintro ⟨#HR, #HL, HA, Hs0, Hacc⟩ Hk
  rw [k0_part21_eq_skeleton]; unfold k0_part21_skel
  simp only [semSignalWord, semWaitWord, Prog.lift, Prog.bind_op, Prog.bind_ret, Prog.bind_assoc, Prog.pure_eq_ret, wp_deviceId]
  iapply (attend PK c biasV X KT VT _ 0 0 rfl fullShare.right.right.right k0_t1_loop k0_t1_ok (by decide)
      (fun x w => k0_t1_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v2 v4 biasV)
      (fun x w => trip1 c biasV _ KT VT v2 v4)
      k0_pay62 rfl k0_pay64 rfl) $$ [HA Hs0 Hacc]
  · isplitl [HA]; · iexact HA
    isplitl [Hs0]; · iexact Hs0
    iexact Hacc
  iintro %a0 %z0 %w0 ⟨HA, Hs0, Hacc⟩
  iapply Hk
  isplitl [HA]; · iexact HA
  isplitl [Hs0]; · iexact Hs0
  iexact Hacc

set_option maxRecDepth 16384 in
set_option maxHeartbeats 800000 in
/-- The neighbours' packets; the left one's goes on. -/
theorem talk_near (v4 v7 : BitVec 32) {α : Type} {k : PUnit → Prog (TpuEff nD τ sig (Elt F) Λ₀ .tc) α} {P : α → sProp 𝕄} :
    iprop(records PK K ∗ levAts L lv ∗ owesE c (owedFrom c 4) ∗ cred (tallyAt (recvCell (Fin.succ 0) c) () N) ∗ atPos ER (recvCell (Fin.succ 0) c) 0 ∅ 0 ∗ give 3 c ∗ sendTok c 3 ∗ cred (tallyAt (recvCell (Fin.succ 1) c) () N) ∗ atPos ER (recvCell (Fin.succ 1) c) 0 ∅ 0)
      ⊢ iprop((owesE c (owedFrom c 3) ∗ atPos ER (recvCell (Fin.succ 0) c) 1 ∅ 0 ∗ atPos ER (recvCell (Fin.succ 1) c) 1 ∅ 0 ∗ slotPts c 1 fullShare.right (ring PK c) ∗ slotPts c 2 fullShare (ring PK c) ∗ cred (tallyAt (sendCell 3 c) () N) -∗ wp frame (wpE (defs₀ (F := F)) 𝒱₀ (c : Thread nD τ) none) Set.univ (k ⟨⟩) P)
          -∗ wp frame (wpE (defs₀ (F := F)) 𝒱₀ (c : Thread nD τ) none) Set.univ ((k0_part22 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v4 v7) >>= k) P) := by
  iintro ⟨#HR, #HL, HO, Hc0, Hw0, Hg3, Htk3, Hc1, Hw1⟩ Hk
  rw [k0_part22_eq_skeleton]; unfold k0_part22_skel
  simp only [semSignalWord, semWaitWord, Prog.lift, Prog.bind_op, Prog.bind_ret, Prog.bind_assoc, Prog.pure_eq_ret, wp_deviceId]
  iapply (recv_step PK K c 0 4 (by decide) (by decide) rfl rfl) $$ [Hc0 HO Hw0]
  · isplitr; · iexact HR
    isplitr; · iexact HL
    isplitl [Hc0]; · iexact Hc0
    isplitl [HO]; · iexact HO
    iexact Hw0
  iintro ⟨HO, Hw0, Hs1⟩
  ihave Hs1 := (Entails.of_eq (show (slotPts c (Fin.succ 0) fullShare (ring PK c) : sProp 𝕄) = slotPts c 1 fullShare (ring PK c) from rfl)) $$ Hs1
  ihave ⟨Hl1, Hs1⟩ := (slot_share (F := F) c 1 fullShare (ring PK c)).1 $$ Hs1
  iapply (send_step PK K c 3 3 (by decide) (Fin.ext (k0_dev7_eq c)) rfl rfl rfl rfl) $$ [Hl1 Hg3 HO Htk3]
  · isplitr; · iexact HR
    isplitl [Hl1]; · iexact Hl1
    isplitl [Hg3]; · iexact Hg3
    isplitl [HO]; · iexact HO
    iexact Htk3
  iintro ⟨HO, Hcs3⟩
  iapply (recv_step PK K c 1 3 (by decide) (by decide) rfl rfl) $$ [Hc1 HO Hw1]
  · isplitr; · iexact HR
    isplitr; · iexact HL
    isplitl [Hc1]; · iexact Hc1
    isplitl [HO]; · iexact HO
    iexact Hw1
  iintro ⟨HO, Hw1, Hs2⟩
  ihave Hs2 := (Entails.of_eq (show (slotPts c (Fin.succ 1) fullShare (ring PK c) : sProp 𝕄) = slotPts c 2 fullShare (ring PK c) from rfl)) $$ Hs2
  iapply Hk
  isplitl [HO]; · iexact HO
  isplitl [Hw0]; · iexact Hw0
  isplitl [Hw1]; · iexact Hw1
  isplitl [Hs1]; · iexact Hs1
  isplitl [Hs2]; · iexact Hs2
  iexact Hcs3

end Cert.KernelIdeal.Talk

end
-- ==== Proof.KernelIdeal.SegB.lean ====
/-
Stretches of the body: the three packets received first, and those two away going on.
-/
module

public import proofs.«01_k».proof.Proof.KernelIdeal.Body0

@[expose] public section

noncomputable section

namespace Cert.KernelIdeal.Talk

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (PK : Dev nD → FVec F S768x1024 .bf16)

variable (K : GSem nD τ sig → ℕ) (c : Dev nD) (X : FVec F S1024x768 .bf16) (KT VT : FVec F S2x64x64x512 .bf16)

set_option maxRecDepth 16384 in
set_option maxHeartbeats 800000 in
/-- The right one's packet goes on; the three packets received are attended to. -/
theorem talk_three (v4 v7 v9 : BitVec 32) {α : Type} {k : PUnit → Prog (TpuEff nD τ sig (Elt F) Λ₀ .tc) α} {P : α → sProp 𝕄} :
    iprop(records PK K ∗ levAts L lv ∗ owesE c (owedFrom c 3) ∗ slotPts c 2 fullShare (ring PK c) ∗ give 4 c ∗ sendTok c 4 ∗ cred (tallyAt (recvCell (Fin.succ 2) c) () N) ∗ atPos ER (recvCell (Fin.succ 2) c) 0 ∅ 0 ∗ attRes c X KT VT ∗ slotPts c 1 fullShare.right (ring PK c) ∗ accPts c (accAt PK X KT VT c 1) ∗ cred (tallyAt (recvCell (Fin.succ 3) c) () N) ∗ atPos ER (recvCell (Fin.succ 3) c) 0 ∅ 0)
      ⊢ iprop((owesE c (owedFrom c 2) ∗ slotPts c 2 fullShare.right (ring PK c) ∗ cred (tallyAt (sendCell 4 c) () N) ∗ atPos ER (recvCell (Fin.succ 2) c) 1 ∅ 0 ∗ slotPts c 3 fullShare (ring PK c) ∗ attRes c X KT VT ∗ slotPts c 1 fullShare.right (ring PK c) ∗ accPts c (accAt PK X KT VT c 4) ∗ atPos ER (recvCell (Fin.succ 3) c) 1 ∅ 0 ∗ slotPts c 4 fullShare (ring PK c) -∗ wp frame (wpE (defs₀ (F := F)) 𝒱₀ (c : Thread nD τ) none) Set.univ (k ⟨⟩) P)
          -∗ wp frame (wpE (defs₀ (F := F)) 𝒱₀ (c : Thread nD τ) none) Set.univ ((k0_part23 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v4 v7 biasV) >>= fun v220 => (k0_part24 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v4 biasV v220) >>= fun v247 => (k0_part25 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v4 v9 biasV v247) >>= k) P) := by
  iintro ⟨#HR, #HL, HO, Hs2, Hg4, Htk4, Hc2, Hw2, HA, Hs1, Hacc, Hc3, Hw3⟩ Hk
  rw [k0_part23_eq_skeleton]; unfold k0_part23_skel
  simp only [semSignalWord, semWaitWord, Prog.lift, Prog.bind_op, Prog.bind_ret, Prog.bind_assoc, Prog.pure_eq_ret, wp_deviceId]
  rw [k0_part24_eq_skeleton]; unfold k0_part24_skel
  simp only [semSignalWord, semWaitWord, Prog.lift, Prog.bind_op, Prog.bind_ret, Prog.bind_assoc, Prog.pure_eq_ret, wp_deviceId]
  rw [k0_part25_eq_skeleton]; unfold k0_part25_skel
  simp only [semSignalWord, semWaitWord, Prog.lift, Prog.bind_op, Prog.bind_ret, Prog.bind_assoc, Prog.pure_eq_ret, wp_deviceId]
  ihave ⟨Hl2, Hs2⟩ := (slot_share (F := F) c 2 fullShare (ring PK c)).1 $$ Hs2
  iapply (send_step PK K c 4 2 (by decide) (Fin.ext (k0_dev8_eq c)) rfl rfl rfl rfl) $$ [Hl2 Hg4 HO Htk4]
  · isplitr; · iexact HR
    isplitl [Hl2]; · iexact Hl2
    isplitl [Hg4]; · iexact Hg4
    isplitl [HO]; · iexact HO
    iexact Htk4
  iintro ⟨HO, Hcs4⟩
  iapply (recv_step PK K c 2 2 (by decide) (by decide) rfl rfl) $$ [Hc2 HO Hw2]
  · isplitr; · iexact HR
    isplitr; · iexact HL
    isplitl [Hc2]; · iexact Hc2
    isplitl [HO]; · iexact HO
    iexact Hw2
  iintro ⟨HO, Hw2, Hs3⟩
  ihave Hs3 := (Entails.of_eq (show (slotPts c (Fin.succ 2) fullShare (ring PK c) : sProp 𝕄) = slotPts c 3 fullShare (ring PK c) from rfl)) $$ Hs3
  iapply (attend PK c biasV X KT VT _ 1 1 rfl fullShare.right k0_t2_loop k0_t2_ok (by decide)
      (fun x w => k0_t2_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v4 v7 biasV)
      (fun x w => trip2 c biasV _ KT VT v4 v7)
      k0_pay65 rfl (fun a z w => k0_pay68 (k0_pay67 a z w)) rfl) $$ [HA Hs1 Hacc]
  · isplitl [HA]; · iexact HA
    isplitl [Hs1]; · iexact Hs1
    iexact Hacc
  iintro %a1 %z1 %w1 ⟨HA, Hs1, Hacc⟩
  iapply (attend PK c biasV X KT VT _ 2 2 rfl fullShare.right k0_t3_loop k0_t3_ok (by decide)
      (fun x w => k0_t3_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v4 biasV (k0_pay67 a1 z1 w1))
      (fun x w => trip3 c biasV _ KT VT v4 (k0_pay67 a1 z1 w1))
      k0_pay69 rfl k0_pay71 rfl) $$ [HA Hs2 Hacc]
  · isplitl [HA]; · iexact HA
    isplitl [Hs2]; · iexact Hs2
    iexact Hacc
  iintro %a2 %z2 %w2 ⟨HA, Hs2, Hacc⟩
  iapply (attend PK c biasV X KT VT _ 3 3 rfl fullShare k0_t4_loop k0_t4_ok (by decide)
      (fun x w => k0_t4_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v4 v9 biasV (k0_pay72 x w))
      (fun x w => trip4 c biasV _ KT VT v4 v9 (k0_pay72 x w))
      (fun x w => k0_pay73 (k0_pay72 x w)) rfl k0_pay75 rfl) $$ [HA Hs3 Hacc]
  · isplitl [HA]; · iexact HA
    isplitl [Hs3]; · iexact Hs3
    iexact Hacc
  iintro %a3 %z3 %w3 ⟨HA, Hs3, Hacc⟩
  iapply (recv_step PK K c 3 2 (by decide) (by decide) rfl rfl) $$ [Hc3 HO Hw3]
  · isplitr; · iexact HR
    isplitr; · iexact HL
    isplitl [Hc3]; · iexact Hc3
    isplitl [HO]; · iexact HO
    iexact Hw3
  iintro ⟨HO, Hw3, Hs4⟩
  ihave Hs4 := (Entails.of_eq (show (slotPts c (Fin.succ 3) fullShare (ring PK c) : sProp 𝕄) = slotPts c 4 fullShare (ring PK c) from rfl)) $$ Hs4
  iapply Hk
  isplitl [HO]; · iexact HO
  isplitl [Hs2]; · iexact Hs2
  isplitl [Hcs4]; · iexact Hcs4
  isplitl [Hw2]; · iexact Hw2
  isplitl [Hs3]; · iexact Hs3
  isplitl [HA]; · iexact HA
  isplitl [Hs1]; · iexact Hs1
  isplitl [Hacc]; · iexact Hacc
  isplitl [Hw3]; · iexact Hw3
  iexact Hs4

set_option maxRecDepth 16384 in
set_option maxHeartbeats 800000 in
/-- The packets two away go on. -/
theorem talk_far (v2 v4 v7 : BitVec 32) {α : Type} {k : BitVec 32 → Prog (TpuEff nD τ sig (Elt F) Λ₀ .tc) α} {P : α → sProp 𝕄} :
    iprop(records PK K ∗ levAts L lv ∗ owesE c (owedFrom c 2) ∗ slotPts c 4 fullShare (ring PK c) ∗ give 5 c ∗ sendTok c 5 ∗ cred (tallyAt (recvCell (Fin.succ 4) c) () N) ∗ atPos ER (recvCell (Fin.succ 4) c) 0 ∅ 0 ∗ give 6 c ∗ sendTok c 6)
      ⊢ iprop((owesE c (owedFrom c 0) ∗ slotPts c 4 fullShare.right (ring PK c) ∗ cred (tallyAt (sendCell 5 c) () N) ∗ atPos ER (recvCell (Fin.succ 4) c) 1 ∅ 0 ∗ slotPts c 5 fullShare.right (ring PK c) ∗ cred (tallyAt (sendCell 6 c) () N) -∗ wp frame (wpE (defs₀ (F := F)) 𝒱₀ (c : Thread nD τ) none) Set.univ (k (Scalar.remsi (Scalar.subi (Scalar.addi v2 8#32) 2#32) 8#32)) P)
          -∗ wp frame (wpE (defs₀ (F := F)) 𝒱₀ (c : Thread nD τ) none) Set.univ ((k0_part26 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v2 v4 v7) >>= k) P) := by
  iintro ⟨#HR, #HL, HO, Hs4, Hg5, Htk5, Hc4, Hw4, Hg6, Htk6⟩ Hk
  rw [k0_part26_eq_skeleton]; unfold k0_part26_skel
  simp only [semSignalWord, semWaitWord, Prog.lift, Prog.bind_op, Prog.bind_ret, Prog.bind_assoc, Prog.pure_eq_ret, wp_deviceId]
  ihave ⟨Hl4, Hs4⟩ := (slot_share (F := F) c 4 fullShare (ring PK c)).1 $$ Hs4
  iapply (send_step PK K c 5 1 (by decide) (Fin.ext (k0_dev9_eq c)) rfl rfl rfl rfl) $$ [Hl4 Hg5 HO Htk5]
  · isplitr; · iexact HR
    isplitl [Hl4]; · iexact Hl4
    isplitl [Hg5]; · iexact Hg5
    isplitl [HO]; · iexact HO
    iexact Htk5
  iintro ⟨HO, Hcs5⟩
  iapply (recv_step PK K c 4 1 (by decide) (by decide) rfl rfl) $$ [Hc4 HO Hw4]
  · isplitr; · iexact HR
    isplitr; · iexact HL
    isplitl [Hc4]; · iexact Hc4
    isplitl [HO]; · iexact HO
    iexact Hw4
  iintro ⟨HO, Hw4, Hs5⟩
  ihave Hs5 := (Entails.of_eq (show (slotPts c (Fin.succ 4) fullShare (ring PK c) : sProp 𝕄) = slotPts c 5 fullShare (ring PK c) from rfl)) $$ Hs5
  ihave ⟨Hl5, Hs5⟩ := (slot_share (F := F) c 5 fullShare (ring PK c)).1 $$ Hs5
  iapply (send_step PK K c 6 0 (by decide) (Fin.ext (k0_dev10_eq c)) rfl rfl rfl rfl) $$ [Hl5 Hg6 HO Htk6]
  · isplitr; · iexact HR
    isplitl [Hl5]; · iexact Hl5
    isplitl [Hg6]; · iexact Hg6
    isplitl [HO]; · iexact HO
    iexact Htk6
  iintro ⟨HO, Hcs6⟩
  iapply Hk
  isplitl [HO]; · iexact HO
  isplitl [Hs4]; · iexact Hs4
  isplitl [Hcs5]; · iexact Hcs5
  isplitl [Hw4]; · iexact Hw4
  isplitl [Hs5]; · iexact Hs5
  iexact Hcs6

end Cert.KernelIdeal.Talk

end
-- ==== Proof.KernelIdeal.SegC.lean ====
/-
Stretches of the body: the last four packets, the waits for the sends, and the result.
-/
module

public import proofs.«01_k».proof.Proof.KernelIdeal.Body0

@[expose] public section

noncomputable section

namespace Cert.KernelIdeal.Talk

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (PK : Dev nD → FVec F S768x1024 .bf16)

variable (K : GSem nD τ sig → ℕ) (c : Dev nD) (X : FVec F S1024x768 .bf16) (KT VT : FVec F S2x64x64x512 .bf16)

set_option maxRecDepth 16384 in
set_option maxHeartbeats 800000 in
/-- The packets two away are attended to. -/
theorem talk_two (v2 v4 w0 : BitVec 32) {α : Type} {k : PUnit → Prog (TpuEff nD τ sig (Elt F) Λ₀ .tc) α} {P : α → sProp 𝕄} :
    iprop(records PK K ∗ levAts L lv ∗ owesE c (owedFrom c 0) ∗ attRes c X KT VT ∗ slotPts c 4 fullShare.right (ring PK c) ∗ slotPts c 5 fullShare.right (ring PK c) ∗ accPts c (accAt PK X KT VT c 4) ∗ cred (tallyAt (recvCell (Fin.succ 5) c) () N) ∗ atPos ER (recvCell (Fin.succ 5) c) 0 ∅ 0)
      ⊢ iprop((owesE c (owedFrom c 0) ∗ attRes c X KT VT ∗ slotPts c 4 fullShare.right (ring PK c) ∗ slotPts c 5 fullShare.right (ring PK c) ∗ accPts c (accAt PK X KT VT c 6) ∗ atPos ER (recvCell (Fin.succ 5) c) 1 ∅ 0 ∗ slotPts c 6 fullShare (ring PK c) -∗ wp frame (wpE (defs₀ (F := F)) 𝒱₀ (c : Thread nD τ) none) Set.univ (k ⟨⟩) P)
          -∗ wp frame (wpE (defs₀ (F := F)) 𝒱₀ (c : Thread nD τ) none) Set.univ ((k0_part27 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v2 biasV w0) >>= fun x => (k0_part28 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v4 biasV x.1 x.2) >>= k) P) := by
  iintro ⟨#HR, #HL, HO, HA, Hs4, Hs5, Hacc, Hc5, Hw5⟩ Hk
  rw [k0_part27_eq_skeleton]; unfold k0_part27_skel
  simp only [semSignalWord, semWaitWord, Prog.lift, Prog.bind_op, Prog.bind_ret, Prog.bind_assoc, Prog.pure_eq_ret, wp_deviceId]
  rw [k0_part28_eq_skeleton]; unfold k0_part28_skel
  simp only [semSignalWord, semWaitWord, Prog.lift, Prog.bind_op, Prog.bind_ret, Prog.bind_assoc, Prog.pure_eq_ret, wp_deviceId]
  iapply (attend PK c biasV X KT VT _ 4 4 rfl fullShare.right k0_t5_loop k0_t5_ok (by decide)
      (fun x w => k0_t5_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v2 biasV w0)
      (fun x w => trip5 c biasV _ KT VT v2 w0)
      k0_pay76 rfl k0_pay78 rfl) $$ [HA Hs4 Hacc]
  · isplitl [HA]; · iexact HA
    isplitl [Hs4]; · iexact Hs4
    iexact Hacc
  iintro %a4 %z4 %w4 ⟨HA, Hs4, Hacc⟩
  iapply (attend PK c biasV X KT VT _ 5 5 rfl fullShare.right k0_t6_loop k0_t6_ok (by decide)
      (fun x w => k0_t6_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v4 biasV (Scalar.remsi (Scalar.addi v2 2#32) 8#32) (k0_pay79 x w))
      (fun x w => trip6 c biasV _ KT VT v4 (Scalar.remsi (Scalar.addi v2 2#32) 8#32) (k0_pay79 x w))
      (fun x w => k0_pay80 (k0_pay79 x w)) rfl k0_pay82 rfl) $$ [HA Hs5 Hacc]
  · isplitl [HA]; · iexact HA
    isplitl [Hs5]; · iexact Hs5
    iexact Hacc
  iintro %a5 %z5 %w5 ⟨HA, Hs5, Hacc⟩
  iapply (recv_step PK K c 5 0 (by decide) (by decide) rfl rfl) $$ [Hc5 HO Hw5]
  · isplitr; · iexact HR
    isplitr; · iexact HL
    isplitl [Hc5]; · iexact Hc5
    isplitl [HO]; · iexact HO
    iexact Hw5
  iintro ⟨HO, Hw5, Hs6⟩
  ihave Hs6 := (Entails.of_eq (show (slotPts c (Fin.succ 5) fullShare (ring PK c) : sProp 𝕄) = slotPts c 6 fullShare (ring PK c) from rfl)) $$ Hs6
  iapply Hk
  isplitl [HO]; · iexact HO
  isplitl [HA]; · iexact HA
  isplitl [Hs4]; · iexact Hs4
  isplitl [Hs5]; · iexact Hs5
  isplitl [Hacc]; · iexact Hacc
  isplitl [Hw5]; · iexact Hw5
  iexact Hs6

set_option maxRecDepth 16384 in
set_option maxHeartbeats 800000 in
/-- The packets three away are attended to. -/
theorem talk_last (v2 : BitVec 32) {α : Type} {k : PUnit → Prog (TpuEff nD τ sig (Elt F) Λ₀ .tc) α} {P : α → sProp 𝕄} :
    iprop(records PK K ∗ levAts L lv ∗ owesE c (owedFrom c 0) ∗ attRes c X KT VT ∗ slotPts c 6 fullShare (ring PK c) ∗ accPts c (accAt PK X KT VT c 6) ∗ cred (tallyAt (recvCell (Fin.succ 6) c) () N) ∗ atPos ER (recvCell (Fin.succ 6) c) 0 ∅ 0)
      ⊢ iprop((owesE c (owedFrom c 0) ∗ attRes c X KT VT ∗ slotPts c 6 fullShare (ring PK c) ∗ slotPts c 7 fullShare (ring PK c) ∗ accPts c (accAt PK X KT VT c 8) ∗ atPos ER (recvCell (Fin.succ 6) c) 1 ∅ 0 -∗ wp frame (wpE (defs₀ (F := F)) 𝒱₀ (c : Thread nD τ) none) Set.univ (k ⟨⟩) P)
          -∗ wp frame (wpE (defs₀ (F := F)) 𝒱₀ (c : Thread nD τ) none) Set.univ ((k0_part29 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v2 biasV) >>= fun w => (k0_part30 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v2 biasV w) >>= k) P) := by
  iintro ⟨#HR, #HL, HO, HA, Hs6, Hacc, Hc6, Hw6⟩ Hk
  rw [k0_part29_eq_skeleton]; unfold k0_part29_skel
  simp only [semSignalWord, semWaitWord, Prog.lift, Prog.bind_op, Prog.bind_ret, Prog.bind_assoc, Prog.pure_eq_ret, wp_deviceId]
  rw [k0_part30_eq_skeleton]; unfold k0_part30_skel
  simp only [semSignalWord, semWaitWord, Prog.lift, Prog.bind_op, Prog.bind_ret, Prog.bind_assoc, Prog.pure_eq_ret, wp_deviceId]
  iapply (recv_step PK K c 6 0 (by decide) (by decide) rfl rfl) $$ [Hc6 HO Hw6]
  · isplitr; · iexact HR
    isplitr; · iexact HL
    isplitl [Hc6]; · iexact Hc6
    isplitl [HO]; · iexact HO
    iexact Hw6
  iintro ⟨HO, Hw6, Hs7⟩
  ihave Hs7 := (Entails.of_eq (show (slotPts c (Fin.succ 6) fullShare (ring PK c) : sProp 𝕄) = slotPts c 7 fullShare (ring PK c) from rfl)) $$ Hs7
  iapply (attend PK c biasV X KT VT _ 6 6 rfl fullShare k0_t7_loop k0_t7_ok (by decide)
      (fun x w => k0_t7_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v2 biasV (Scalar.remsi (Scalar.subi (Scalar.addi v2 8#32) 3#32) 8#32))
      (fun x w => trip7 c biasV _ KT VT v2 (Scalar.remsi (Scalar.subi (Scalar.addi v2 8#32) 3#32) 8#32))
      k0_pay83 rfl k0_pay85 rfl) $$ [HA Hs6 Hacc]
  · isplitl [HA]; · iexact HA
    isplitl [Hs6]; · iexact Hs6
    iexact Hacc
  iintro %a6 %z6 %w6 ⟨HA, Hs6, Hacc⟩
  iapply (attend PK c biasV X KT VT _ 7 7 rfl fullShare k0_t8_loop k0_t8_ok (by decide)
      (fun x w => k0_t8_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v2 biasV 3#32 (Scalar.remsi (Scalar.addi v2 3#32) 8#32))
      (fun x w => trip8 c biasV _ KT VT v2 3#32 (Scalar.remsi (Scalar.addi v2 3#32) 8#32))
      k0_pay86 rfl k0_pay88 rfl) $$ [HA Hs7 Hacc]
  · isplitl [HA]; · iexact HA
    isplitl [Hs7]; · iexact Hs7
    iexact Hacc
  iintro %a7 %z7 %w7 ⟨HA, Hs7, Hacc⟩
  iapply Hk
  isplitl [HO]; · iexact HO
  isplitl [HA]; · iexact HA
  isplitl [Hs6]; · iexact Hs6
  isplitl [Hs7]; · iexact Hs7
  isplitl [Hacc]; · iexact Hacc
  iexact Hw6

set_option maxRecDepth 16384 in
set_option maxHeartbeats 800000 in
/-- The first four sends have been read. -/
theorem talk_sent {α : Type} {k : PUnit → Prog (TpuEff nD τ sig (Elt F) Λ₀ .tc) α} {P : α → sProp 𝕄} :
    iprop(records PK K ∗ levAts L lv ∗ owesE c (owedFrom c 0) ∗ cred (tallyAt (sendCell 0 c) () N) ∗ cred (tallyAt (sendCell 1 c) () N) ∗ cred (tallyAt (sendCell 2 c) () N) ∗ cred (tallyAt (sendCell 3 c) () N) ∗ atPos ER (sendCell 0 c) 0 ∅ 0 ∗ atPos ER (sendCell 1 c) 0 ∅ 0 ∗ atPos ER (sendCell 2 c) 0 ∅ 0 ∗ atPos ER (sendCell 3 c) 0 ∅ 0)
      ⊢ iprop((owesE c (owedFrom c 0) ∗ atPos ER (sendCell 0 c) 1 ∅ 0 ∗ atPos ER (sendCell 1 c) 1 ∅ 0 ∗ atPos ER (sendCell 2 c) 1 ∅ 0 ∗ atPos ER (sendCell 3 c) 1 ∅ 0 ∗ slotPts c (srcSlot 0) (lent 0) (ring PK c) ∗ slotPts c (srcSlot 1) (lent 1) (ring PK c) ∗ slotPts c (srcSlot 2) (lent 2) (ring PK c) ∗ slotPts c (srcSlot 3) (lent 3) (ring PK c) -∗ wp frame (wpE (defs₀ (F := F)) 𝒱₀ (c : Thread nD τ) none) Set.univ (k ⟨⟩) P)
          -∗ wp frame (wpE (defs₀ (F := F)) 𝒱₀ (c : Thread nD τ) none) Set.univ ((k0_part31 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5) >>= k) P) := by
  iintro ⟨#HR, #HL, HO, Hcs0, Hcs1, Hcs2, Hcs3, Hv0, Hv1, Hv2, Hv3⟩ Hk
  rw [k0_part31_eq_skeleton]; unfold k0_part31_skel
  simp only [semSignalWord, semWaitWord, Prog.lift, Prog.bind_op, Prog.bind_ret, Prog.bind_assoc, Prog.pure_eq_ret, wp_deviceId]
  iapply (sent_step PK K c 0 (k' := 0) rfl rfl) $$ [Hcs0 HO Hv0]
  · isplitr; · iexact HR
    isplitl [Hcs0]; · iexact Hcs0
    isplitl [HO]; · iexact HO
    iexact Hv0
  iintro ⟨HO, Hv0, Hl0⟩
  iapply (sent_step PK K c 1 (k' := 0) rfl rfl) $$ [Hcs1 HO Hv1]
  · isplitr; · iexact HR
    isplitl [Hcs1]; · iexact Hcs1
    isplitl [HO]; · iexact HO
    iexact Hv1
  iintro ⟨HO, Hv1, Hl1⟩
  iapply (sent_step PK K c 2 (k' := 0) rfl rfl) $$ [Hcs2 HO Hv2]
  · isplitr; · iexact HR
    isplitl [Hcs2]; · iexact Hcs2
    isplitl [HO]; · iexact HO
    iexact Hv2
  iintro ⟨HO, Hv2, Hl2⟩
  iapply (sent_step PK K c 3 (k' := 1) rfl rfl) $$ [Hcs3 HO Hv3]
  · isplitr; · iexact HR
    isplitl [Hcs3]; · iexact Hcs3
    isplitl [HO]; · iexact HO
    iexact Hv3
  iintro ⟨HO, Hv3, Hl3⟩
  iapply Hk
  isplitl [HO]; · iexact HO
  isplitl [Hv0]; · iexact Hv0
  isplitl [Hv1]; · iexact Hv1
  isplitl [Hv2]; · iexact Hv2
  isplitl [Hv3]; · iexact Hv3
  isplitl [Hl0]; · iexact Hl0
  isplitl [Hl1]; · iexact Hl1
  isplitl [Hl2]; · iexact Hl2
  iexact Hl3

set_option maxRecDepth 16384 in
set_option maxHeartbeats 800000 in
/-- The other sends have been read, and the result is written. -/
theorem talk_out (acc : FVec F S1024x768 .f32) (fo : Buf (Elt F) ((c : Thread nD τ).loc cc0_stg4_0)) {o1 hs2 hm2} {α : Type} {k : PUnit → Prog (TpuEff nD τ sig (Elt F) Λ₀ .tc) α} {P : α → sProp 𝕄} :
    iprop(records PK K ∗ levAts L lv ∗ owesE c (owedFrom c 0) ∗ cred (tallyAt (sendCell 4 c) () N) ∗ cred (tallyAt (sendCell 5 c) () N) ∗ cred (tallyAt (sendCell 6 c) () N) ∗ atPos ER (sendCell 4 c) 0 ∅ 0 ∗ atPos ER (sendCell 5 c) 0 ∅ 0 ∗ atPos ER (sendCell 6 c) 0 ∅ 0 ∗ accPts c acc ∗ ((c : Thread nD τ).loc cc0_stg4_0 ↦{fullShare} fo))
      ⊢ iprop((owesE c (owedFrom c 0) ∗ atPos ER (sendCell 4 c) 1 ∅ 0 ∗ atPos ER (sendCell 5 c) 1 ∅ 0 ∗ atPos ER (sendCell 6 c) 1 ∅ 0 ∗ slotPts c (srcSlot 4) (lent 4) (ring PK c) ∗ slotPts c (srcSlot 5) (lent 5) (ring PK c) ∗ slotPts c (srcSlot 6) (lent 6) (ring PK c) ∗ accPts c acc ∗ ((c : Thread nD τ).loc cc0_stg4_0 ↦{fullShare} outV acc) -∗ wp frame (wpE (defs₀ (F := F)) 𝒱₀ (c : Thread nD τ) none) Set.univ (k ⟨⟩) P)
          -∗ wp frame (wpE (defs₀ (F := F)) 𝒱₀ (c : Thread nD τ) none) Set.univ ((k0_part32 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5) >>= fun v =>
            .op (.store outM (Rect.unit (s := S2x512x768) ![1, 0, 0] S1x512x768.size o1) v Finset.univ hs2 hm2) k) P) := by
  iintro ⟨#HR, #HL, HO, Hcs4, Hcs5, Hcs6, Hv4, Hv5, Hv6, Hacc, Hout⟩ Hk
  rw [k0_part32_eq_skeleton]; unfold k0_part32_skel
  simp only [semSignalWord, semWaitWord, Prog.lift, Prog.bind_op, Prog.bind_ret, Prog.bind_assoc, Prog.pure_eq_ret, wp_deviceId]
  iapply (sent_step PK K c 4 (k' := 2) rfl rfl) $$ [Hcs4 HO Hv4]
  · isplitr; · iexact HR
    isplitl [Hcs4]; · iexact Hcs4
    isplitl [HO]; · iexact HO
    iexact Hv4
  iintro ⟨HO, Hv4, Hl4⟩
  iapply (sent_step PK K c 5 (k' := 4) rfl rfl) $$ [Hcs5 HO Hv5]
  · isplitr; · iexact HR
    isplitl [Hcs5]; · iexact Hcs5
    isplitl [HO]; · iexact HO
    iexact Hv5
  iintro ⟨HO, Hv5, Hl5⟩
  iapply (sent_step PK K c 6 (k' := 5) rfl rfl) $$ [Hcs6 HO Hv6]
  · isplitr; · iexact HR
    isplitl [Hcs6]; · iexact Hcs6
    isplitl [HO]; · iexact HO
    iexact Hv6
  iintro ⟨HO, Hv6, Hl6⟩
  iapply (out_step c acc fo k0_pay89 k0_pay90 rfl rfl) $$ [Hacc Hout]
  · isplitl [Hacc]; · iexact Hacc
    iexact Hout
  iintro ⟨Hacc, Hout⟩
  iapply Hk
  isplitl [HO]; · iexact HO
  isplitl [Hv4]; · iexact Hv4
  isplitl [Hv5]; · iexact Hv5
  isplitl [Hv6]; · iexact Hv6
  isplitl [Hl4]; · iexact Hl4
  isplitl [Hl5]; · iexact Hl5
  isplitl [Hl6]; · iexact Hl6
  isplitl [Hacc]; · iexact Hacc
  iexact Hout

end Cert.KernelIdeal.Talk

end
-- ==== Proof.KernelIdeal.Body.lean ====
/-
The body of the call, run on a device: from what the launch gives it to the result and every counter at zero.
-/
module

public import proofs.«01_k».proof.Proof.KernelIdeal.SegA
public import proofs.«01_k».proof.Proof.KernelIdeal.SegB
public import proofs.«01_k».proof.Proof.KernelIdeal.SegC

@[expose] public section

noncomputable section

namespace Cert.KernelIdeal.Talk

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (PK : Dev nD → FVec F S768x1024 .bf16)

variable (K : GSem nD τ sig → ℕ)

theorem own_slot_duties (c : Dev nD) (r : ℕ) (h : 0 ≤ r) : (sched PK).duties (recvCell 0 c) r = ∅ := by
  rcases Nat.eq_zero_or_pos r with rfl | hr
  · exact duties_recv0 PK c
  · exact duties_later PK _ _ hr

/-- All cells give their counters back at zero. -/
theorem cells_back (c : Dev nD) :
    iprop(records (F := F) PK K ∗ atPos ER (barCell c) 1 ∅ 0 ∗ atPos ER (sendCell 0 c) 1 ∅ 0 ∗ atPos ER (sendCell 1 c) 1 ∅ 0 ∗ atPos ER (sendCell 2 c) 1 ∅ 0 ∗ atPos ER (sendCell 3 c) 1 ∅ 0 ∗ atPos ER (sendCell 4 c) 1 ∅ 0 ∗ atPos ER (sendCell 5 c) 1 ∅ 0 ∗ atPos ER (sendCell 6 c) 1 ∅ 0 ∗ atPos ER (recvCell (Fin.succ 0) c) 1 ∅ 0 ∗ atPos ER (recvCell (Fin.succ 1) c) 1 ∅ 0 ∗ atPos ER (recvCell (Fin.succ 2) c) 1 ∅ 0 ∗ atPos ER (recvCell (Fin.succ 3) c) 1 ∅ 0 ∗ atPos ER (recvCell (Fin.succ 4) c) 1 ∅ 0 ∗ atPos ER (recvCell (Fin.succ 5) c) 1 ∅ 0 ∗ atPos ER (recvCell (Fin.succ 6) c) 1 ∅ 0 ∗ atPos ER (recvCell 0 c) 0 ∅ 0)
      ⊢ iprop(|={Set.univ}=> (semVal (barCell c) 0 ∗ (bigSep (Finset.univ : Finset (Fin 7)) fun s => semVal (sendCell s c) 0) ∗
        (bigSep (Finset.univ : Finset (Fin 7)) fun s => semVal (recvCell s.succ c) 0) ∗ semVal (recvCell 0 c) 0)) := by
  iintro ⟨#HR, Hb, Hv0, Hv1, Hv2, Hv3, Hv4, Hv5, Hv6, Hw0, Hw1, Hw2, Hw3, Hw4, Hw5, Hw6, Hw7⟩
  imod (close_at PK K (Finset.mem_union_left _ (mem_bar c)) 1 (duties_later PK _)) $$ [Hb] with Hb
  · isplitr; · iexact HR
    iexact Hb
  imod (close_at PK K (Finset.mem_union_right _ (mem_send 0 c)) 1 (duties_later PK _)) $$ [Hv0] with Hv0
  · isplitr; · iexact HR
    iexact Hv0
  imod (close_at PK K (Finset.mem_union_right _ (mem_send 1 c)) 1 (duties_later PK _)) $$ [Hv1] with Hv1
  · isplitr; · iexact HR
    iexact Hv1
  imod (close_at PK K (Finset.mem_union_right _ (mem_send 2 c)) 1 (duties_later PK _)) $$ [Hv2] with Hv2
  · isplitr; · iexact HR
    iexact Hv2
  imod (close_at PK K (Finset.mem_union_right _ (mem_send 3 c)) 1 (duties_later PK _)) $$ [Hv3] with Hv3
  · isplitr; · iexact HR
    iexact Hv3
  imod (close_at PK K (Finset.mem_union_right _ (mem_send 4 c)) 1 (duties_later PK _)) $$ [Hv4] with Hv4
  · isplitr; · iexact HR
    iexact Hv4
  imod (close_at PK K (Finset.mem_union_right _ (mem_send 5 c)) 1 (duties_later PK _)) $$ [Hv5] with Hv5
  · isplitr; · iexact HR
    iexact Hv5
  imod (close_at PK K (Finset.mem_union_right _ (mem_send 6 c)) 1 (duties_later PK _)) $$ [Hv6] with Hv6
  · isplitr; · iexact HR
    iexact Hv6
  imod (close_at PK K (Finset.mem_union_right _ (mem_recv (Fin.succ 0) c)) 1 (duties_later PK _)) $$ [Hw0] with Hw0
  · isplitr; · iexact HR
    iexact Hw0
  imod (close_at PK K (Finset.mem_union_right _ (mem_recv (Fin.succ 1) c)) 1 (duties_later PK _)) $$ [Hw1] with Hw1
  · isplitr; · iexact HR
    iexact Hw1
  imod (close_at PK K (Finset.mem_union_right _ (mem_recv (Fin.succ 2) c)) 1 (duties_later PK _)) $$ [Hw2] with Hw2
  · isplitr; · iexact HR
    iexact Hw2
  imod (close_at PK K (Finset.mem_union_right _ (mem_recv (Fin.succ 3) c)) 1 (duties_later PK _)) $$ [Hw3] with Hw3
  · isplitr; · iexact HR
    iexact Hw3
  imod (close_at PK K (Finset.mem_union_right _ (mem_recv (Fin.succ 4) c)) 1 (duties_later PK _)) $$ [Hw4] with Hw4
  · isplitr; · iexact HR
    iexact Hw4
  imod (close_at PK K (Finset.mem_union_right _ (mem_recv (Fin.succ 5) c)) 1 (duties_later PK _)) $$ [Hw5] with Hw5
  · isplitr; · iexact HR
    iexact Hw5
  imod (close_at PK K (Finset.mem_union_right _ (mem_recv (Fin.succ 6) c)) 1 (duties_later PK _)) $$ [Hw6] with Hw6
  · isplitr; · iexact HR
    iexact Hw6
  imod (close_at PK K (Finset.mem_union_right _ (mem_recv 0 c)) 0 (own_slot_duties PK c)) $$ [Hw7] with Hw7
  · isplitr; · iexact HR
    iexact Hw7
  imodintro
  isplitl [Hb]; · iexact Hb
  isplitl [Hv0 Hv1 Hv2 Hv3 Hv4 Hv5 Hv6]
  · iapply (Entails.of_eq (seven _).symm)
    isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    iexact Hv6
  isplitl [Hw0 Hw1 Hw2 Hw3 Hw4 Hw5 Hw6]
  · iapply (Entails.of_eq (seven _).symm)
    isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    iexact Hw6
  iexact Hw7

/-- The shares lent and kept make the buffer whole again. -/
theorem slots_back (c : Dev nD) :
    iprop(slotPts c 0 fullShare.right.right.right (ring PK c) ∗ slotPts c 1 fullShare.right (ring PK c) ∗ slotPts c 2 fullShare.right (ring PK c) ∗ slotPts c 3 fullShare (ring PK c) ∗ slotPts c 4 fullShare.right (ring PK c) ∗ slotPts c 5 fullShare.right (ring PK c) ∗ slotPts c 6 fullShare (ring PK c) ∗ slotPts c 7 fullShare (ring PK c) ∗ slotPts c (srcSlot 0) (lent 0) (ring PK c) ∗ slotPts c (srcSlot 1) (lent 1) (ring PK c) ∗ slotPts c (srcSlot 2) (lent 2) (ring PK c) ∗ slotPts c (srcSlot 3) (lent 3) (ring PK c) ∗ slotPts c (srcSlot 4) (lent 4) (ring PK c) ∗ slotPts c (srcSlot 5) (lent 5) (ring PK c) ∗ slotPts c (srcSlot 6) (lent 6) (ring PK c)) ⊢ ((c : Thread nD τ).loc cc0_scratch0 ↦{fullShare} ring PK c : sProp 𝕄) := by
  iintro ⟨Hs0, Hs1, Hs2, Hs3, Hs4, Hs5, Hs6, Hs7, Hl0, Hl1, Hl2, Hl3, Hl4, Hl5, Hl6⟩
  ihave Hs5 := (slot_share (F := F) c 5 fullShare (ring PK c)).2 $$ [Hl6 Hs5]
  · isplitl [Hl6]; · iexact Hl6
    iexact Hs5
  ihave Hs4 := (slot_share (F := F) c 4 fullShare (ring PK c)).2 $$ [Hl5 Hs4]
  · isplitl [Hl5]; · iexact Hl5
    iexact Hs4
  ihave Hs2 := (slot_share (F := F) c 2 fullShare (ring PK c)).2 $$ [Hl4 Hs2]
  · isplitl [Hl4]; · iexact Hl4
    iexact Hs2
  ihave Hs1 := (slot_share (F := F) c 1 fullShare (ring PK c)).2 $$ [Hl3 Hs1]
  · isplitl [Hl3]; · iexact Hl3
    iexact Hs1
  ihave Hs0 := (slot_share (F := F) c 0 fullShare.right.right (ring PK c)).2 $$ [Hl2 Hs0]
  · isplitl [Hl2]; · iexact Hl2
    iexact Hs0
  ihave Hs0 := (slot_share (F := F) c 0 fullShare.right (ring PK c)).2 $$ [Hl1 Hs0]
  · isplitl [Hl1]; · iexact Hl1
    iexact Hs0
  ihave Hs0 := (slot_share (F := F) c 0 fullShare (ring PK c)).2 $$ [Hl0 Hs0]
  · isplitl [Hl0]; · iexact Hl0
    iexact Hs0
  iapply (Entails.of_eq ((packs_slots c (ring PK c)).trans (eight _)).symm)
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  iexact Hs7

/-- What the launch gives a device for its body. -/
def bodyPre (c : Dev nD) (X : FVec F S1024x768 .bf16) (KT VT : FVec F S2x64x64x512 .bf16) : sProp 𝕄 :=
  iprop(records PK K ∗ levAts L lv ∗ owesE (F := F) c (O₀ c) ∗ atPos ER (barCell c) 0 ∅ 0 ∗ cred (tallyAt (barCell c) () 3) ∗
    (bigSep (Finset.univ : Finset (Fin 3)) fun j => dutyTok ER (barCell (tgt j c)) 0 j) ∗
    (bigSep (Finset.univ : Finset (Fin 7)) fun s => iprop(atPos ER (sendCell s c) 0 ∅ 0 ∗ sendTok c s)) ∗
    (bigSep (Finset.univ : Finset (Fin 7)) fun s => iprop(atPos ER (recvCell s.succ c) 0 ∅ 0 ∗ reached ER (recvCell s.succ c) 0 ∗ cred (tallyAt (recvCell s.succ c) () N))) ∗
    (atPos ER (recvCell 0 c) 0 ∅ 0 ∗ reached ER (recvCell 0 c) 0) ∗
    ((c : Thread nD τ).loc cc0_stg1_0 ↦{fullShare} PK c) ∗ attRes c X KT VT ∗
    (∃ f, ((c : Thread nD τ).loc cc0_scratch3 ↦{fullShare} f)) ∗ (∃ f, ((c : Thread nD τ).loc cc0_scratch0 ↦{fullShare} f)) ∗
    (∃ f, ((c : Thread nD τ).loc cc0_stg4_0 ↦{fullShare} f)))

/-- What the body leaves. -/
def bodyPost (c : Dev nD) (X : FVec F S1024x768 .bf16) (KT VT : FVec F S2x64x64x512 .bf16) : sProp 𝕄 :=
  iprop(owesE (F := F) c 0 ∗ semVal (barCell c) 0 ∗ (bigSep (Finset.univ : Finset (Fin 7)) fun s => semVal (sendCell s c) 0) ∗
    (bigSep (Finset.univ : Finset (Fin 7)) fun s => semVal (recvCell s.succ c) 0) ∗ semVal (recvCell 0 c) 0 ∗
    ((c : Thread nD τ).loc cc0_stg1_0 ↦{fullShare} PK c) ∗ attRes c X KT VT ∗
    (∃ f, ((c : Thread nD τ).loc cc0_scratch3 ↦{fullShare} f)) ∗ (∃ f, ((c : Thread nD τ).loc cc0_scratch0 ↦{fullShare} f)) ∗
    ((c : Thread nD τ).loc cc0_stg4_0 ↦{fullShare} outV (accAt PK X KT VT c 8)))

set_option maxRecDepth 16384 in
set_option maxHeartbeats 2000000 in
theorem body_run (c : Dev nD) (X : FVec F S1024x768 .bf16) (KT VT : FVec F S2x64x64x512 .bf16) :
    bodyPre PK K c X KT VT ⊢ wp frame (wpE (defs₀ (F := F)) 𝒱₀ (c : Thread nD τ) none) Set.univ
      (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5) (fun _ => bodyPost PK c X KT VT) := by
  unfold bodyPre
  rw [cc0_body_eq_skeleton]; unfold cc0_body_skel
  rw [k0_part17_eq_skeleton]; unfold k0_part17_skel
  simp only [semSignalWord, semWaitWord, Prog.lift, Prog.bind_op, Prog.bind_ret, Prog.bind_assoc, Prog.pure_eq_ret, wp_deviceId]
  iintro ⟨#HR, #HL, HO, Hb, Hcb, Hbt, Hsnd, Hrcv, ⟨Hw7, #Hr7⟩, Hpk, HA, ⟨%fa, Hacc⟩, ⟨%fs, Hp⟩, ⟨%fo, Hout⟩⟩
  ihave Hbt := (Entails.of_eq (three _)) $$ Hbt
  icases Hbt with ⟨Hb0, Hb1, Hb2⟩
  ihave Hrcv := (Entails.of_eq (seven _)) $$ Hrcv
  icases Hrcv with ⟨⟨Hw0, #Hr0, Hc0⟩, ⟨Hw1, #Hr1, Hc1⟩, ⟨Hw2, #Hr2, Hc2⟩, ⟨Hw3, #Hr3, Hc3⟩, ⟨Hw4, #Hr4, Hc4⟩, ⟨Hw5, #Hr5, Hc5⟩, ⟨Hw6, #Hr6, Hc6⟩⟩
  ihave Hp := (Entails.of_eq ((packs_slots c fs).trans (eight _))) $$ Hp
  icases Hp with ⟨Hs0, Hs1, Hs2, Hs3, Hs4, Hs5, Hs6, Hs7⟩
  iapply (signal_step PK K c 0 (Fin.ext (k0_dev1_eq c)) (owedFrom c 7 + tallyAt (barCell (shift 4 c)) () 1 + tallyAt (barCell (shift 1 c)) () 1)) $$ [HO Hb0 Hs1 Hs4 Hs6]
  · isplitr; · iexact HR
    isplitl [HO]; · iexact HO
    isplitl [Hb0]; · iexact Hb0
    iapply (Entails.of_eq (handed_left (F := F) c).symm)
    unfold handSlot
    isplitl [Hs1]
    · isplitl [Hs1]; · iexists _; iexact Hs1
      iexact Hr0
    isplitl [Hs4]
    · isplitl [Hs4]; · iexists _; iexact Hs4
      iexact Hr3
    isplitl [Hs6]; · iexists _; iexact Hs6
    iexact Hr5
  iintro HO
  iapply (signal_step PK K c 1 (Fin.ext (k0_dev2_eq c)) (owedFrom c 7 + tallyAt (barCell (shift 4 c)) () 1)) $$ [HO Hb1 Hs2 Hs5 Hs7]
  · isplitr; · iexact HR
    isplitl [HO]; · iexact HO
    isplitl [Hb1]; · iexact Hb1
    iapply (Entails.of_eq (handed_right (F := F) c).symm)
    unfold handSlot
    isplitl [Hs2]
    · isplitl [Hs2]; · iexists _; iexact Hs2
      iexact Hr1
    isplitl [Hs5]
    · isplitl [Hs5]; · iexists _; iexact Hs5
      iexact Hr4
    isplitl [Hs7]; · iexists _; iexact Hs7
    iexact Hr6
  iintro HO
  iapply (signal_step PK K c 2 (Fin.ext (k0_dev3_eq c)) (owedFrom c 7)) $$ [HO Hb2 Hs3]
  · isplitr; · iexact HR
    isplitl [HO]; · iexact HO
    isplitl [Hb2]; · iexact Hb2
    iapply (Entails.of_eq (handed_anti (F := F) c).symm)
    unfold handSlot
    isplitl [Hs3]; · iexists _; iexact Hs3
    iexact Hr2
  iintro HO
  iapply (barrier_step PK K c) $$ [Hcb HO Hb]
  · isplitr; · iexact HR
    isplitr; · iexact HL
    isplitl [Hcb]; · iexact Hcb
    isplitl [HO]; · iexact HO
    iexact Hb
  iintro ⟨HO, Hb, Hg⟩
  rw [k0_part18_eq_skeleton]; unfold k0_part18_skel
  simp only [semSignalWord, semWaitWord, Prog.lift, Prog.bind_op, Prog.bind_ret, Prog.bind_assoc, Prog.pure_eq_ret, wp_deviceId]
  iapply (own_step PK c fa fs) $$ [Hpk Hs0 Hacc]
  · isplitl [Hpk]; · iexact Hpk
    isplitl [Hs0]; · iexact Hs0
    iexact Hacc
  iintro ⟨Hpk, Hs0, Hacc⟩
  rw [k0_part19_eq_skeleton]; unfold k0_part19_skel
  simp only [semSignalWord, semWaitWord, Prog.lift, Prog.bind_op, Prog.bind_ret, Prog.bind_assoc, Prog.pure_eq_ret, wp_deviceId]
  ihave Hsnd := (Entails.of_eq (seven _)) $$ Hsnd
  icases Hsnd with ⟨⟨Hv0, Htk0⟩, ⟨Hv1, Htk1⟩, ⟨Hv2, Htk2⟩, ⟨Hv3, Htk3⟩, ⟨Hv4, Htk4⟩, ⟨Hv5, Htk5⟩, ⟨Hv6, Htk6⟩⟩
  ihave Hg := (Entails.of_eq (seven _)) $$ Hg
  icases Hg with ⟨Hg0, Hg1, Hg2, Hg3, Hg4, Hg5, Hg6⟩
  iapply (talk_first PK K c _ _ _ _) $$ [HO Hs0 Hg0 Hg1 Hg2 Htk0 Htk1 Htk2]
  · isplitr; · iexact HR
    isplitr; · iexact HL
    isplitl [HO]; · iexact HO
    isplitl [Hs0]; · iexact Hs0
    isplitl [Hg0]; · iexact Hg0
    isplitl [Hg1]; · iexact Hg1
    isplitl [Hg2]; · iexact Hg2
    isplitl [Htk0]; · iexact Htk0
    isplitl [Htk1]; · iexact Htk1
    iexact Htk2
  iintro ⟨HO, Hs0, Hcs0, Hcs1, Hcs2⟩
  iapply (talk_own PK K c X KT VT _ _) $$ [HA Hs0 Hacc]
  · isplitr; · iexact HR
    isplitr; · iexact HL
    isplitl [HA]; · iexact HA
    isplitl [Hs0]; · iexact Hs0
    iexact Hacc
  iintro ⟨HA, Hs0, Hacc⟩
  iapply (talk_near PK K c _ _) $$ [HO Hc0 Hw0 Hg3 Htk3 Hc1 Hw1]
  · isplitr; · iexact HR
    isplitr; · iexact HL
    isplitl [HO]; · iexact HO
    isplitl [Hc0]; · iexact Hc0
    isplitl [Hw0]; · iexact Hw0
    isplitl [Hg3]; · iexact Hg3
    isplitl [Htk3]; · iexact Htk3
    isplitl [Hc1]; · iexact Hc1
    iexact Hw1
  iintro ⟨HO, Hw0, Hw1, Hs1, Hs2, Hcs3⟩
  iapply (talk_three PK K c X KT VT _ _ _) $$ [HO Hs2 Hg4 Htk4 Hc2 Hw2 HA Hs1 Hacc Hc3 Hw3]
  · isplitr; · iexact HR
    isplitr; · iexact HL
    isplitl [HO]; · iexact HO
    isplitl [Hs2]; · iexact Hs2
    isplitl [Hg4]; · iexact Hg4
    isplitl [Htk4]; · iexact Htk4
    isplitl [Hc2]; · iexact Hc2
    isplitl [Hw2]; · iexact Hw2
    isplitl [HA]; · iexact HA
    isplitl [Hs1]; · iexact Hs1
    isplitl [Hacc]; · iexact Hacc
    isplitl [Hc3]; · iexact Hc3
    iexact Hw3
  iintro ⟨HO, Hs2, Hcs4, Hw2, Hs3, HA, Hs1, Hacc, Hw3, Hs4⟩
  iapply (talk_far PK K c _ _ _) $$ [HO Hs4 Hg5 Htk5 Hc4 Hw4 Hg6 Htk6]
  · isplitr; · iexact HR
    isplitr; · iexact HL
    isplitl [HO]; · iexact HO
    isplitl [Hs4]; · iexact Hs4
    isplitl [Hg5]; · iexact Hg5
    isplitl [Htk5]; · iexact Htk5
    isplitl [Hc4]; · iexact Hc4
    isplitl [Hw4]; · iexact Hw4
    isplitl [Hg6]; · iexact Hg6
    iexact Htk6
  iintro ⟨HO, Hs4, Hcs5, Hw4, Hs5, Hcs6⟩
  iapply (talk_two PK K c X KT VT _ _ _) $$ [HO HA Hs4 Hs5 Hacc Hc5 Hw5]
  · isplitr; · iexact HR
    isplitr; · iexact HL
    isplitl [HO]; · iexact HO
    isplitl [HA]; · iexact HA
    isplitl [Hs4]; · iexact Hs4
    isplitl [Hs5]; · iexact Hs5
    isplitl [Hacc]; · iexact Hacc
    isplitl [Hc5]; · iexact Hc5
    iexact Hw5
  iintro ⟨HO, HA, Hs4, Hs5, Hacc, Hw5, Hs6⟩
  iapply (talk_last PK K c X KT VT _) $$ [HO HA Hs6 Hacc Hc6 Hw6]
  · isplitr; · iexact HR
    isplitr; · iexact HL
    isplitl [HO]; · iexact HO
    isplitl [HA]; · iexact HA
    isplitl [Hs6]; · iexact Hs6
    isplitl [Hacc]; · iexact Hacc
    isplitl [Hc6]; · iexact Hc6
    iexact Hw6
  iintro ⟨HO, HA, Hs6, Hs7, Hacc, Hw6⟩
  iapply (talk_sent PK K c ) $$ [HO Hcs0 Hcs1 Hcs2 Hcs3 Hv0 Hv1 Hv2 Hv3]
  · isplitr; · iexact HR
    isplitr; · iexact HL
    isplitl [HO]; · iexact HO
    isplitl [Hcs0]; · iexact Hcs0
    isplitl [Hcs1]; · iexact Hcs1
    isplitl [Hcs2]; · iexact Hcs2
    isplitl [Hcs3]; · iexact Hcs3
    isplitl [Hv0]; · iexact Hv0
    isplitl [Hv1]; · iexact Hv1
    isplitl [Hv2]; · iexact Hv2
    iexact Hv3
  iintro ⟨HO, Hv0, Hv1, Hv2, Hv3, Hl0, Hl1, Hl2, Hl3⟩
  simp only [semSignalWord, semWaitWord, Prog.lift, Prog.bind_op, Prog.bind_ret, Prog.bind_assoc, Prog.pure_eq_ret, wp_deviceId]
  iapply (talk_out PK K c (accAt PK X KT VT c 8) fo) $$ [HO Hcs4 Hcs5 Hcs6 Hv4 Hv5 Hv6 Hacc Hout]
  · isplitr; · iexact HR
    isplitr; · iexact HL
    isplitl [HO]; · iexact HO
    isplitl [Hcs4]; · iexact Hcs4
    isplitl [Hcs5]; · iexact Hcs5
    isplitl [Hcs6]; · iexact Hcs6
    isplitl [Hv4]; · iexact Hv4
    isplitl [Hv5]; · iexact Hv5
    isplitl [Hv6]; · iexact Hv6
    isplitl [Hacc]; · iexact Hacc
    iexact Hout
  iintro ⟨HO, Hv4, Hv5, Hv6, Hl4, Hl5, Hl6, Hacc, Hout⟩
  rw [wp_ret]
  imod (cells_back PK K c) $$ [Hb Hv0 Hv1 Hv2 Hv3 Hv4 Hv5 Hv6 Hw0 Hw1 Hw2 Hw3 Hw4 Hw5 Hw6 Hw7] with ⟨Hb, Hv, Hw, Hw7⟩
  · isplitr; · iexact HR
    isplitl [Hb]; · iexact Hb
    isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    isplitl [Hv6]; · iexact Hv6
    isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    iexact Hw7
  imodintro
  ihave Hp := (slots_back PK c) $$ [Hs0 Hs1 Hs2 Hs3 Hs4 Hs5 Hs6 Hs7 Hl0 Hl1 Hl2 Hl3 Hl4 Hl5 Hl6]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    iexact Hl6
  unfold bodyPost
  isplitl [HO]; · iexact HO
  isplitl [Hb]; · iexact Hb
  isplitl [Hv]; · iexact Hv
  isplitl [Hw]; · iexact Hw
  isplitl [Hw7]; · iexact Hw7
  isplitl [Hpk]; · iexact Hpk
  isplitl [HA]; · iexact HA
  isplitl [Hacc]; · unfold accPts; iexists _; iexact Hacc
  isplitl [Hp]; · iexists _; iexact Hp
  iexact Hout

end Cert.KernelIdeal.Talk

end
-- ==== Proof.KernelIdeal.Call.lean ====
module

public import proofs.«01_k».proof.Proof.KernelIdeal.Body
public import proofs.«01_k».proof.Proof.Gen.KernelIdeal.Frame
public import Idealize.ShloMosaic.Lib.Pipeline.RegionTalk

@[expose] public section

noncomputable section

namespace Cert.KernelIdeal.Talk

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

/-! ## What the call's arrays hold when it is entered -/

/-- The rows of `x` of device `c`, the weights it packs, and its keys and values. -/
def xOf (c : Dev nD) : FVec F S1024x768 .bf16 := V m c main_v1
def packOf (c : Dev nD) : FVec F S768x1024 .bf16 := V m c main_v5
def keysOf (c : Dev nD) : FVec F S2x64x64x512 .bf16 := V m c main_v6
def valsOf (c : Dev nD) : FVec F S2x64x64x512 .bf16 := V m c main_v7
/-- What device `c` returns. -/
def resOf (c : Dev nD) : FVec F S2x512x768 .bf16 := outV (accAt (packOf m) (xOf m c) (keysOf m c) (valsOf m c) c 8)

theorem blk0 (c : Dev nD) (t : Fin cfg0.N) : iblk m c 0 t = xOf m c := by
  rw [fin_N0 t]; funext i
  refine congrArg (V m c main_v1) (funext fun a => Fin.ext ?_)
  show 0 * _ + 1 * (i a).val = (i a).val
  omega
theorem blk1 (c : Dev nD) (t : Fin cfg0.N) : iblk m c 1 t = packOf m c := by
  rw [fin_N0 t]; funext i
  refine congrArg (V m c main_v5) (funext fun a => Fin.ext ?_)
  show 0 * _ + 1 * (i a).val = (i a).val
  omega
theorem blk2 (c : Dev nD) (t : Fin cfg0.N) : iblk m c 2 t = keysOf m c := by
  rw [fin_N0 t]; funext i
  refine congrArg (V m c main_v6) (funext fun a => Fin.ext ?_)
  show 0 * _ + 1 * (i a).val = (i a).val
  omega
theorem blk3 (c : Dev nD) (t : Fin cfg0.N) : iblk m c 3 t = valsOf m c := by
  rw [fin_N0 t]; funext i
  refine congrArg (V m c main_v7) (funext fun a => Fin.ext ?_)
  show 0 * _ + 1 * (i a).val = (i a).val
  omega

/-! ## The proof data of the call -/

/-- What a device's body starts from beside its buffers. -/
def ready (K : GSem nD τ sig → ℕ) (c : Dev nD) : sProp 𝕄 :=
  iprop(records (packOf m) K ∗ levAts L lv ∗ atPos ER (barCell c) 0 ∅ 0 ∗ cred (tallyAt (barCell c) () 3) ∗
    (bigSep (Finset.univ : Finset (Fin 3)) fun j => dutyTok ER (barCell (tgt j c)) 0 j) ∗
    (bigSep (Finset.univ : Finset (Fin 7)) fun s => iprop(atPos ER (sendCell s c) 0 ∅ 0 ∗ sendTok c s)) ∗
    (bigSep (Finset.univ : Finset (Fin 7)) fun s => iprop(atPos ER (recvCell s.succ c) 0 ∅ 0 ∗ reached ER (recvCell s.succ c) 0 ∗ cred (tallyAt (recvCell s.succ c) () N))) ∗
    (atPos ER (recvCell 0 c) 0 ∅ 0 ∗ reached ER (recvCell 0 c) 0))

/-- The buffers of the call's own. -/
def scratch (c : Dev nD) : sProp 𝕄 :=
  iprop((∃ f, ((c : Thread nD τ).loc cc0_scratch0 ↦{fullShare} f)) ∗ (∃ f, ((c : Thread nD τ).loc cc0_scratch1 ↦{fullShare} f)) ∗
    (∃ f, ((c : Thread nD τ).loc cc0_scratch2 ↦{fullShare} f)) ∗ (∃ f, ((c : Thread nD τ).loc cc0_scratch3 ↦{fullShare} f)))

def before (c : Dev nD) : sProp 𝕄 := iprop((∃ K, ready m K c) ∗ scratch c ∗ ∃ r, prngReg c r)
def afterwards (c : Dev nD) : sProp 𝕄 :=
  iprop((semVal (barCell c) 0 ∗ (bigSep (Finset.univ : Finset (Fin 7)) fun s => semVal (sendCell s c) 0) ∗
    (bigSep (Finset.univ : Finset (Fin 7)) fun s => semVal (recvCell s.succ c) 0) ∗ semVal (recvCell 0 c) 0) ∗ scratch c ∗ ∃ r, prngReg c r)

def dat (c : Dev nD) : Pipeline.Dat τ (Elt F) Unit ℕ UU ℕ cfg0 c where
  A w := V m c (Pipeline.arrRef spec0 w)
  after w _ := match w with
    | ⟨0, _⟩ => xOf m c
    | ⟨1, _⟩ => packOf m c
    | ⟨2, _⟩ => keysOf m c
    | ⟨3, _⟩ => valsOf m c
    | ⟨4, _⟩ => resOf m c
  Φ t := if t.val = 0 then before m c else afterwards c
  q _ := fullShare
  owed t := if t.val = 0 then O₀ c else 0

abbrev adm : (p : Fin 1) → (pcfgs (F := F) p).Adm := fun p => (cfgs p).toPCfg_adm
def pdats : (p : Fin 1) → (c : Dev nD) → Pipeline.Dat τ (Elt F) Unit ℕ UU ℕ (Pipeline.pin (pcfgs (F := F)) adm p) c := fun _ c => dat m c

theorem before0 (c : Dev nD) (t : Fin cfg0.N) (d) : (dat m c).before 0 t d = xOf m c := by
  rw [fin_N0 t]
  unfold Pipeline.Dat.before; rw [if_pos (fetch0_0 t0_0)]
  exact blk0 m c t0_0
theorem before1 (c : Dev nD) (t : Fin cfg0.N) (d) : (dat m c).before 1 t d = packOf m c := by
  rw [fin_N0 t]
  unfold Pipeline.Dat.before; rw [if_pos (fetch0_1 t0_0)]
  exact blk1 m c t0_0
theorem before2 (c : Dev nD) (t : Fin cfg0.N) (d) : (dat m c).before 2 t d = keysOf m c := by
  rw [fin_N0 t]
  unfold Pipeline.Dat.before; rw [if_pos (fetch0_2 t0_0)]
  exact blk2 m c t0_0
theorem before3 (c : Dev nD) (t : Fin cfg0.N) (d) : (dat m c).before 3 t d = valsOf m c := by
  rw [fin_N0 t]
  unfold Pipeline.Dat.before; rw [if_pos (fetch0_3 t0_0)]
  exact blk3 m c t0_0

theorem arr4 (c : Dev nD) : (dat m c).arrAt 4 cfg0.N = resOf m c := by
  refine (dat m c).arrAt_eq_of_cover 4 (resOf m c) (fun t _ => ?_) fun i => ⟨t0_0, flush0_4 t0_0, ?_⟩
  · rw [fin_N0 t]; funext i
    refine congrArg (resOf m c) (funext fun a => Fin.ext ?_)
    show (i a).val = 0 * _ + 1 * (i a).val
    omega
  · refine Finset.mem_map.mpr ⟨i, Finset.mem_univ _, funext fun a => Fin.ext ?_⟩
    show 0 * _ + 1 * (i a).val = (i a).val
    omega

theorem owed_first (c : Dev nD) : (dat (F := F) m c).owed t0_0.castSucc = O₀ c := by dsimp only [dat]; exact if_pos rfl
theorem owed_last (c : Dev nD) : (dat (F := F) m c).owed (Fin.last cfg0.N) = 0 := by dsimp only [dat]; exact if_neg (by rw [Fin.val_last]; decide)

theorem owesAt_intro (c : Dev nD) (t : Fin (cfg0.N + 1)) (O : CellTallies nD τ sig Unit) (h : (dat m c).owed t = O) :
    owesE (F := F) c O ⊢ ((dat m c).owesAt () t : sProp 𝕄) := by
  unfold owesE Pipeline.Dat.owesAt Pipeline.owesWithin Pipeline.Dat.bound; rw [h]
  iintro ⟨%W, HO⟩; iexists W; isplitr; · ipureintro; exact fun _ _ => Or.inl trivial
  iexact HO
theorem owesAt_elim (c : Dev nD) (t : Fin (cfg0.N + 1)) (O : CellTallies nD τ sig Unit) (h : (dat m c).owed t = O) :
    ((dat m c).owesAt () t : sProp 𝕄) ⊢ owesE (F := F) c O := by
  unfold owesE Pipeline.Dat.owesAt Pipeline.owesWithin; rw [h]
  iintro ⟨%W, -, HO⟩; iexists W; iexact HO

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body's start and end as the pipeline states them. -/
def pipePre (c : Dev nD) : sProp 𝕄 :=
  iprop(before m c ∗ (dat m c).owesAt () t0_0.castSucc
    ∗ (∃ d, stg c cc0_stg0_0 ((dat m c).before 0 t0_0 d)) ∗ (∃ d, stg c cc0_stg1_0 ((dat m c).before 1 t0_0 d))
    ∗ (∃ d, stg c cc0_stg2_0 ((dat m c).before 2 t0_0 d)) ∗ (∃ d, stg c cc0_stg3_0 ((dat m c).before 3 t0_0 d))
    ∗ (∃ d, stg c cc0_stg4_0 ((dat m c).before 4 t0_0 d)))
def pipePost (c : Dev nD) : sProp 𝕄 :=
  iprop(afterwards c ∗ (dat m c).owesAt () t0_0.succ ∗ stg c cc0_stg0_0 (xOf m c) ∗ stg c cc0_stg1_0 (packOf m c)
    ∗ stg c cc0_stg2_0 (keysOf m c) ∗ stg c cc0_stg3_0 (valsOf m c) ∗ stg c cc0_stg4_0 (resOf m c))

theorem pre_of (c : Dev nD) : pipePre m c ⊢ iprop((∃ K, bodyPre (packOf m) K c (xOf m c) (keysOf m c) (valsOf m c)) ∗ ∃ r, prngReg c r) := by
  unfold pipePre before ready scratch bodyPre attRes
  iintro ⟨⟨⟨%K, HR, HL, Hb, Hc, Ht, Hs, Hv, H0⟩, ⟨Hs0, Hs1, Hs2, Hs3⟩, Hp⟩, Ho, ⟨%d0, %g0, %e0, H1⟩, ⟨%d1, %g1, %e1, H2⟩, ⟨%d2, %g2, %e2, H3⟩, ⟨%d3, %g3, %e3, H4⟩, ⟨%d4, %g4, -, H5⟩⟩
  have e0 := e0.trans (before0 m c t0_0 d0)
  have e1 := e1.trans (before1 m c t0_0 d1)
  have e2 := e2.trans (before2 m c t0_0 d2)
  have e3 := e3.trans (before3 m c t0_0 d3)
  subst e0 e1 e2 e3
  isplitr [Hp]
  · iexists K
    isplitl [HR]; · iexact HR
    isplitl [HL]; · iexact HL
    isplitl [Ho]; · iapply (owesAt_elim m c _ _ (owed_first m c)) $$ Ho
    isplitl [Hb]; · iexact Hb
    isplitl [Hc]; · iexact Hc
    isplitl [Ht]; · iexact Ht
    isplitl [Hs]; · iexact Hs
    isplitl [Hv]; · iexact Hv
    isplitl [H0]; · iexact H0
    isplitl [H2]; · iexact H2
    isplitl [H1 H3 H4 Hs1 Hs2]
    · isplitl [H1]; · iexact H1
      isplitl [H3]; · iexact H3
      isplitl [H4]; · iexact H4
      isplitl [Hs1]; · iexact Hs1
      iexact Hs2
    isplitl [Hs3]; · iexact Hs3
    isplitl [Hs0]; · iexact Hs0
    iexists g4; iexact H5
  iexact Hp

theorem post_of (c : Dev nD) : iprop(bodyPost (packOf m) c (xOf m c) (keysOf m c) (valsOf m c) ∗ ∃ r, prngReg c r) ⊢ pipePost m c := by
  unfold pipePost afterwards scratch bodyPost attRes
  iintro ⟨⟨Ho, Hb, Hs, Hv, H0, H2, ⟨H1, H3, H4, Hs1, Hs2⟩, Hs3, Hs0, H5⟩, Hp⟩
  isplitr [Ho H1 H2 H3 H4 H5]
  · isplitl [Hb Hs Hv H0]
    · isplitl [Hb]; · iexact Hb
      isplitl [Hs]; · iexact Hs
      isplitl [Hv]; · iexact Hv
      iexact H0
    isplitr [Hp]
    · isplitl [Hs0]; · iexact Hs0
      isplitl [Hs1]; · iexact Hs1
      isplitl [Hs2]; · iexact Hs2
      iexact Hs3
    iexact Hp
  isplitl [Ho]; · iapply (owesAt_intro m c _ _ (owed_last m c)) $$ Ho
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

theorem pipe_run (c : Dev nD) : pipePre m c ⊢ wp frame (wpE (defs₀ (F := F)) 𝒱₀ (c : Thread nD τ) none) Set.univ
      (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5) (fun _ => pipePost m c) := by
  iintro H
  ihave H := (pre_of m c) $$ H
  icases H with ⟨⟨%K, H⟩, Hp⟩
  ihave H := (body_run (packOf m) K c (xOf m c) (keysOf m c) (valsOf m c)) $$ H
  iapply wp_wand_r
  isplitl [H]; · iexact H
  iintro %_ H
  iapply (post_of m c)
  isplitl [H]; · iexact H
  iexact Hp

set_option maxRecDepth 4000 in
/-- The pipeline's obligation on the body. -/
theorem body_obligation (c : Dev nD) : Pipeline.BodyObligation (dat (F := F) m c) (defs₀ (F := F)) 𝒱₀ () Set.univ := fun t => by
  rw [fin_N0 t]
  rw [bigSep_W0, bigSep_W0]
  simp only [owns_whole_eq]
  exact pipe_run m c

end Cert.KernelIdeal.Talk

end
-- ==== Proof.KernelIdeal.Region.lean ====
module

public import proofs.«01_k».proof.Proof.KernelIdeal.Call

@[expose] public section

noncomputable section

namespace Cert.KernelIdeal.Talk

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

/-! ## Two families over one index set -/

theorem zipped {I : Type} {S : Finset I} {Φ Ψ : I → sProp 𝕄} : iprop(bigSep S Φ ∗ bigSep S Ψ) ⊢ bigSep S fun i => iprop(Φ i ∗ Ψ i) :=
  Entails.of_eq (bigSep_sep' S Φ Ψ).symm
theorem unzipped {I : Type} {S : Finset I} {Φ Ψ : I → sProp 𝕄} : (bigSep S fun i => iprop(Φ i ∗ Ψ i)) ⊢ iprop(bigSep S Φ ∗ bigSep S Ψ) :=
  Entails.of_eq (bigSep_sep' S Φ Ψ)

/-! ## The call's own semaphores -/

def sendIx (s : Fin 7) : Fin 15 := ⟨s.val, by omega⟩
def recvIx (k : Fin 8) : Fin 15 := ⟨7 + k.val, by omega⟩
def sendIxE : Fin 7 ↪ Fin 15 := ⟨sendIx, by decide⟩
def recvIxE : Fin 7 ↪ Fin 15 := ⟨fun s => recvIx s.succ, by decide⟩

theorem fifteen (Φ : Fin 15 → sProp 𝕄) : bigSep Finset.univ Φ
    = iprop((bigSep Finset.univ fun s : Fin 7 => Φ (sendIx s)) ∗ (bigSep Finset.univ fun s : Fin 7 => Φ (recvIx s.succ)) ∗ Φ (recvIx 0)) := by
  rw [show (Finset.univ : Finset (Fin 15)) = Finset.univ.map sendIxE ∪ (Finset.univ.map recvIxE ∪ {recvIx 0}) from by decide,
    bigSep_union (by decide), bigSep_union (by decide), bigSep_map, bigSep_map, bigSep_singleton]
  rfl

theorem at_send (s : Fin 7) (c : Dev nD) : scEmb (c, sendIx s) = sendCell s c := send_eq s c
theorem at_recv (k : Fin 8) (c : Dev nD) : scEmb (c, recvIx k) = recvCell k c := recv_eq k c

theorem own_eq (c : Dev nD) : (Pipeline.ownSems0 osem c : sProp 𝕄)
    = iprop((bigSep Finset.univ fun s : Fin 7 => semVal (sendCell s c) 0) ∗ (bigSep Finset.univ fun s : Fin 7 => semVal (recvCell s.succ c) 0) ∗ semVal (recvCell 0 c) 0) := by
  refine (fifteen fun k => (semVal (scEmb (c, k)) 0 : sProp 𝕄)).trans ?_
  rw [at_recv, bigSep_congr fun s _ => congrArg (fun g => (semVal g 0 : sProp 𝕄)) (at_send s c),
    bigSep_congr fun s _ => congrArg (fun g => (semVal g 0 : sProp 𝕄)) (at_recv (Fin.succ s) c)]

/-! ## Entering and leaving the call -/

/-- What stays with a device from the launch: its barrier's position, the rights to open its other cells, the duties it pays. -/
def linear (c : Dev nD) : sProp 𝕄 :=
  iprop(atPos ER (barCell c) 0 ∅ 0 ∗ (bigSep Finset.univ fun k : Fin 15 => openTok ER (scEmb (c, k))) ∗
    (bigSep (Finset.univ : Finset (Fin 3)) fun j => dutyTok ER (barCell (tgt j c)) 0 j) ∗
    (bigSep (Finset.univ : Finset (Fin 7)) fun s => dutyTok ER (sendCell s c) 0 0) ∗
    (bigSep (Finset.univ : Finset (Fin 7)) fun s => dutyTok ER (recvCell s.succ (peer s c)) 0 0))
def credits (c : Dev nD) : sProp 𝕄 :=
  iprop(cred (tallyAt (barCell c) () 3) ∗ bigSep (Finset.univ : Finset (Fin 7)) fun s => cred (tallyAt (recvCell s.succ c) () N))

def Tk (c : Dev nD) : sProp 𝕄 := iprop((∃ K, records (packOf m) K ∗ linear c) ∗ credits c)
def Yk (c : Dev nD) : sProp 𝕄 := semVal (barCell c) 0

theorem open_one (K : GSem nD τ sig → ℕ) (c : Dev nD) (k : Fin 15) :
    iprop(records (packOf m) K ∗ openTok ER (scEmb (c, k)) ∗ semVal (scEmb (c, k)) 0)
      ⊢ (|={Set.univ}=> (atPos ER (scEmb (c, k)) 0 ∅ 0 ∗ reached ER (scEmb (c, k)) 0) : sProp 𝕄) := by
  iintro ⟨#HR, Ho, Hs⟩
  ihave #HI := (inv_of (packOf m) K (Finset.mem_union_right barCells (Finset.mem_map.mpr ⟨(c, k), Finset.mem_univ _, rfl⟩))) $$ HR
  iapply (Rounds.cell_open ER (sched (packOf m)) (g := scEmb (c, k)) (Set.mem_univ (K (scEmb (c, k)))))
  isplitr; · iexact HI
  isplitl [Ho] <;> iassumption

theorem open_all (K : GSem nD τ sig → ℕ) (c : Dev nD) :
    iprop(records (packOf m) K ∗ (bigSep Finset.univ fun k : Fin 15 => openTok ER (scEmb (c, k))) ∗ Pipeline.ownSems0 osem c)
      ⊢ (|={Set.univ}=> (bigSep Finset.univ fun k : Fin 15 => iprop(atPos ER (scEmb (c, k)) 0 ∅ 0 ∗ reached ER (scEmb (c, k)) 0)) : sProp 𝕄) := by
  refine BIBase.Entails.trans ?_ (bigSep_fupd _ _)
  refine BIBase.Entails.trans (sep_mono_right (show _ ⊢ bigSep Finset.univ fun k : Fin 15 => iprop(openTok ER (scEmb (c, k)) ∗ semVal (scEmb (c, k)) 0) from ?_))
    (bigSep_with_persistent fun k _ => open_one m K c k)
  exact zipped

theorem hopen (c : Dev nD) : iprop(Tk m c ∗ Pipeline.ownSems0 osem c ∗ levAts L lv) ⊢ (|={Set.univ}=> (∃ K, ready m K c) : sProp 𝕄) := by
  unfold Tk linear credits ready sendTok
  iintro ⟨⟨⟨%K, #HR, Hb, Ho, Ht, Hts, Htr⟩, Hc, Hcr⟩, Hs, #HL⟩
  imod (open_all m K c) $$ [Ho Hs] with Hat
  · isplitr; · iexact HR
    isplitl [Ho] <;> iassumption
  ihave Hat := (Entails.of_eq (fifteen fun k => iprop(atPos ER (scEmb (c, k)) 0 ∅ 0 ∗ reached ER (scEmb (c, k)) 0))) $$ Hat
  icases Hat with ⟨Has, Har, Ha0⟩
  ihave Has := (Entails.of_eq (bigSep_congr fun s _ => congrArg (fun g => (iprop(atPos ER g 0 ∅ 0 ∗ reached ER g 0) : sProp 𝕄)) (at_send s c))) $$ Has
  ihave Har := (Entails.of_eq (bigSep_congr fun s _ => congrArg (fun g => (iprop(atPos ER g 0 ∅ 0 ∗ reached ER g 0) : sProp 𝕄)) (at_recv (Fin.succ s) c))) $$ Har
  ihave Ha0 := (Entails.of_eq (congrArg (fun g => (iprop(atPos ER g 0 ∅ 0 ∗ reached ER g 0) : sProp 𝕄)) (at_recv 0 c))) $$ Ha0
  ihave Has := unzipped $$ Has; icases Has with ⟨Has, Hrs⟩
  ihave Har := unzipped $$ Har; icases Har with ⟨Har, Hrr⟩
  imodintro
  iexists K
  isplitr; · iexact HR
  isplitr; · iexact HL
  isplitl [Hb]; · iexact Hb
  isplitl [Hc]; · iexact Hc
  isplitl [Ht]; · iexact Ht
  isplitl [Has Hrs Hts Htr]
  · iapply zipped; isplitl [Has]; · iexact Has
    iapply zipped; isplitl [Hts]; · iexact Hts
    iapply zipped; isplitl [Hrs]; · iexact Hrs
    iexact Htr
  isplitl [Har Hrr Hcr]
  · iapply zipped; isplitl [Har]; · iexact Har
    iapply zipped; isplitl [Hrr]; · iexact Hrr
    iexact Hcr
  iexact Ha0

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem cut (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then O₀ c else 0 := rfl
  rw [e] at h
  split at h
  · exact O₀_pos h
  · exact absurd h (Nat.lt_irrefl 0)

/-- The unscoped buffers as the call finds them, and as it leaves them. -/
abbrev W₁ (c : Dev nD) : Valuation τ sig (Elt F) := StableHlo.after hostOps0 (fun b => m (c, b))
abbrev W₂ (c : Dev nD) : Valuation τ sig (Elt F) := Function.update (W₁ m c) (Proc.devRef .tc main_v8) (resOf m c)
/-- Those no window stages. -/
abbrev others : Finset (DevRef τ sig) := Pipeline.ucRefs τ sig \ Pipeline.arrRefs (τ := τ) spec0

theorem hin (c : Dev nD) : iprop(Pipeline.scopedRest (Pipeline.pin (pcfgs (F := F)) adm 0).spec c ∗ (∃ r, prngReg c r) ∗ StableHlo.held (c.tc : Thread nD τ) ∅ (W₁ m c) ∗ (∃ K, ready m K c))
    ⊢ (pdats m 0 c).Φ 0 := by
  rw [show (pdats m 0 c).Φ 0 = before m c from rfl,
    show (Pipeline.scopedRest (Pipeline.pin (pcfgs (F := F)) adm 0).spec c : sProp 𝕄) = scratch c from scopedRest0_eq c]
  unfold before
  iintro ⟨Hs, Hp, -, Hx⟩
  isplitl [Hx]; · iexact Hx
  isplitl [Hs]; · iexact Hs
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (W₂ m c) ∗ Pipeline.ownSems0 osem c ∗ Yk c) := by
  rw [show (pdats m 0 c).Φ (Fin.last _) = afterwards c from rfl, own_eq,
    show (Pipeline.scopedRest (Pipeline.pin (pcfgs (F := F)) adm 0).spec c : sProp 𝕄) = scratch c from scopedRest0_eq c]
  unfold afterwards Yk
  iintro ⟨⟨Hb, Hs, Hv, H0⟩, Hsc, Hp⟩
  isplitl [Hsc]; · iexact Hsc
  isplitl [Hp]; · iexact Hp
  isplitr
  · unfold StableHlo.held; rw [BI.bigSep_empty]; iempintro
  isplitr [Hb]
  · isplitl [Hs]; · iexact Hs
    isplitl [Hv] <;> iassumption
  iexact Hb

theorem share_eq (c : Dev nD) (w : Fin cfg0.W) : (dat m c).share w = fullShare := by unfold Pipeline.Dat.share; split <;> rfl

theorem W₂_ne (c : Dev nD) (b : Ref sig .tc) (h : b ≠ main_v8) : W₂ m c (Proc.devRef .tc b) = W₁ m c (Proc.devRef .tc b) :=
  Function.update_of_ne (StableHlo.devRef_ne_of_ne h) _ _
theorem W₂_out (c : Dev nD) : W₂ m c (Proc.devRef .tc main_v8) = resOf m c := Function.update_self _ _ _

theorem arr_first (c : Dev nD) (w : Fin cfg0.W) : (dat m c).arrAt w 0 = W₁ m c (Proc.devRef .tc (Pipeline.arrRef spec0 w)) := rfl

theorem arr_last (c : Dev nD) (w : Fin cfg0.W) : (dat m c).arrAt w cfg0.N = W₂ m c (Proc.devRef .tc (Pipeline.arrRef spec0 w)) := by
  revert w
  show ∀ w : Fin 5, (dat m c).arrAt w cfg0.N = W₂ m c (Proc.devRef .tc (Pipeline.arrRef spec0 w))
  intro w
  match w with
  | ⟨0, _⟩ => exact ((dat m c).arrAt_in 0 rfl _).trans (W₂_ne m c main_v1 (by decide)).symm
  | ⟨1, _⟩ => exact ((dat m c).arrAt_in 1 rfl _).trans (W₂_ne m c main_v5 (by decide)).symm
  | ⟨2, _⟩ => exact ((dat m c).arrAt_in 2 rfl _).trans (W₂_ne m c main_v6 (by decide)).symm
  | ⟨3, _⟩ => exact ((dat m c).arrAt_in 3 rfl _).trans (W₂_ne m c main_v7 (by decide)).symm
  | ⟨4, _⟩ => exact (arr4 m c).trans (W₂_out m c).symm

theorem out_mem : (Proc.devRef .tc main_v8 : DevRef τ sig) ∈ Pipeline.arrRefs (τ := τ) spec0 :=
  Finset.mem_map.mpr ⟨main_v8, Finset.mem_image.mpr ⟨4, Finset.mem_univ _, rfl⟩, rfl⟩

theorem rest_same (c : Dev nD) (b : DevRef τ sig) (hb : b ∈ others \ ∅) : W₂ m c b = W₁ m c b :=
  Function.update_of_ne (fun h => (Finset.mem_sdiff.mp (Finset.mem_sdiff.mp hb).1).2 (by rw [h]; exact out_mem)) _ _

theorem staged_level (c : Dev nD) (w : Fin cfg0.W) (s : Fin (cfg0.win w).nbuf) : lv (c.tc, SemLoc.dma ((cfg0.win w).sem s)) () ≤ 0 := by
  revert w s
  show ∀ (w : Fin 5) (s : Fin (cfg0.win w).nbuf), lvOf (SemLoc.dma ((cfg0.win w).sem s)) ≤ 0
  decide

set_option backward.isDefEq.respectTransparency.types false in
/-- The call. -/
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ others (Finset.empty_subset _) kitP rfl (fun c => (body_obligation m c).loose)
    (fun _ => 0) O₀ (fun c => (show (pdats m 0 c).owed 0 = O₀ c from owed_first m c).trans (zero_add _).symm) (owed_last m) (fun _ => rfl) (share_eq m)
    (W₁ m) (W₂ m) (rest_same m)
    (Tk m) Yk (fun c => iprop(∃ K, ready m K c)) Yk (hopen m) (hin m) (hout m)
    (fun c => by iintro H; imodintro; iexact H)
    (fun _ => 0)
    ⟨fun c w s => mem_L _ _ _, staged_level, fun c t g i h => cut m c t g i h⟩
    (fun _ => iprop(emp))
    (arr_first m) (arr_last m)

end Cert.KernelIdeal.Talk

end
-- ==== Proof.KernelIdeal.Launch.lean ====
module

public import proofs.«01_k».proof.Proof.KernelIdeal.Region

@[expose] public section

noncomputable section

namespace Cert.KernelIdeal.Talk

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The credits a device is launched with -/

/-- Whoever owes a unit to "its `a`-th neighbour's" cell owes it, over all devices, once to each cell. -/
theorem owed_once (a : ℕ) (n : ℕ) (X : Dev nD → GSem nD τ sig) (hX : Function.Injective X) (c : Dev nD) :
    (∑ d : Dev nD, (tallyAt (X (shift a d)) () n : CellTallies nD τ sig Unit) (X c) ()) = n := by
  rw [Finset.sum_eq_single (shift (7 * a) c)]
  · rw [shift_inv a (7 * a) (by omega), tallyAt_apply, if_pos ⟨rfl, rfl⟩]
  · intro d _ hd
    rw [tallyAt_apply, if_neg]
    rintro ⟨h, -⟩
    refine hd ?_
    rw [hX h, shift_inv (7 * a) a (by omega)]
  · exact fun h => absurd (Finset.mem_univ _) h

theorem owed_never (a : ℕ) (n : ℕ) (X : Dev nD → GSem nD τ sig) (g : GSem nD τ sig) (hX : ∀ d, g ≠ X d) :
    (∑ d : Dev nD, (tallyAt (X (shift a d)) () n : CellTallies nD τ sig Unit) g ()) = 0 :=
  Finset.sum_eq_zero fun d _ => by rw [tallyAt_apply, if_neg (fun h => hX _ h.1)]

theorem owedFrom_at (d : Dev nD) (g : GSem nD τ sig) :
    owedFrom d 7 g () = ∑ s : Fin 7, (tallyAt (recvCell s.succ (peer s d)) () N : CellTallies nD τ sig Unit) g () := by
  have e (n : ℕ) : owedFrom d (n + 1) g () = owedFrom d n g ()
      + (tallyAt (recvCell (Fin.rev (Fin.ofNat 7 n)).succ (peer (Fin.rev (Fin.ofNat 7 n)) d)) () N : CellTallies nD τ sig Unit) g () := rfl
  rw [e 6, e 5, e 4, e 3, e 2, e 1, e 0, show owedFrom d 0 g () = 0 from rfl, ← Equiv.sum_comp Fin.revPerm, Fin.sum_univ_seven, Nat.zero_add]
  rfl

theorem O₀_at (d : Dev nD) (g : GSem nD τ sig) : O₀ d g () = (∑ s : Fin 7, (tallyAt (recvCell s.succ (peer s d)) () N : CellTallies nD τ sig Unit) g ())
    + (tallyAt (barCell (shift 4 d)) () 1 : CellTallies nD τ sig Unit) g () + (tallyAt (barCell (shift 1 d)) () 1 : CellTallies nD τ sig Unit) g ()
    + (tallyAt (barCell (shift 7 d)) () 1 : CellTallies nD τ sig Unit) g () := by
  rw [← owedFrom_at]; rfl

theorem barCell_inj : Function.Injective (fun c : Dev nD => (barCell c : GSem nD τ sig)) := fun a b h => congrArg (fun g : GSem nD τ sig => g.1.1) h
theorem recvCell_inj (k : Fin 8) : Function.Injective (fun c : Dev nD => (recvCell k c : GSem nD τ sig)) := fun a b h => congrArg (fun g : GSem nD τ sig => g.1.1) h
theorem recvSem_inj : Function.Injective (fun k : Fin 8 => (SemLoc.dma (recvSem k) : SemLoc sig)) := by decide
theorem reg_ne_recv : ∀ k : Fin 8, (SemLoc.reg barrier0 : SemLoc sig) ≠ .dma (recvSem k) := by decide
theorem bar_ne_recv (c d : Dev nD) (k : Fin 8) : (barCell c : GSem nD τ sig) ≠ recvCell k d :=
  fun h => reg_ne_recv k (congrArg (fun g : GSem nD τ sig => g.2) h)

theorem total (g : GSem nD τ sig) : (∑ d, O₀ d g ()) = (∑ s : Fin 7, ∑ d : Dev nD, (tallyAt (recvCell s.succ (peer s d)) () N : CellTallies nD τ sig Unit) g ())
    + (∑ d : Dev nD, (tallyAt (barCell (shift 4 d)) () 1 : CellTallies nD τ sig Unit) g ()) + (∑ d : Dev nD, (tallyAt (barCell (shift 1 d)) () 1 : CellTallies nD τ sig Unit) g ())
    + (∑ d : Dev nD, (tallyAt (barCell (shift 7 d)) () 1 : CellTallies nD τ sig Unit) g ()) := by
  rw [Finset.sum_congr rfl fun d _ => O₀_at d g, Finset.sum_add_distrib, Finset.sum_add_distrib, Finset.sum_add_distrib, Finset.sum_comm]

theorem total_bar (c : Dev nD) : (∑ d, O₀ d (barCell c) ()) = 3 := by
  rw [total, Finset.sum_eq_zero fun s _ => owed_never (off s) N (fun d => recvCell (Fin.succ s) d) (barCell c) (fun d => bar_ne_recv c d _),
    owed_once 4 1 (fun d => barCell d) barCell_inj, owed_once 1 1 (fun d => barCell d) barCell_inj, owed_once 7 1 (fun d => barCell d) barCell_inj]

theorem total_recv (s : Fin 7) (c : Dev nD) : (∑ d, O₀ d (recvCell s.succ c) ()) = N := by
  rw [total, owed_never 4 1 (fun d => barCell d) _ (fun d => (bar_ne_recv d c _).symm), owed_never 1 1 (fun d => barCell d) _ (fun d => (bar_ne_recv d c _).symm),
    owed_never 7 1 (fun d => barCell d) _ (fun d => (bar_ne_recv d c _).symm), Finset.sum_eq_single s]
  · exact owed_once (off s) N (fun d => recvCell s.succ d) (recvCell_inj _) c
  · intro s' _ hs
    exact owed_never (off s') N (fun d => recvCell s'.succ d) _ (fun d h => hs (Fin.succ_injective _ (recvSem_inj (congrArg (fun g : GSem nD τ sig => g.2) h))).symm)
  · exact fun h => absurd (Finset.mem_univ _) h

theorem launch_at (g : GSem nD τ sig) (n : ℕ) (h : (∑ d, O₀ d g ()) = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

def recvLocs : Fin 7 ↪ SemLoc sig := ⟨fun s => SemLoc.dma (recvSem s.succ), by decide⟩

theorem creds (c : Dev nD) : (Pipeline.launchCred O₀ c : sProp 𝕄) ⊢ credits c := by
  unfold Pipeline.launchCred credits
  rw [bigSep_univ_at _ (SemLoc.reg barrier0), launch_at (barCell c) 3 (total_bar c)]
  refine sep_mono_right ?_
  refine BIBase.Entails.trans (BI.bigSep_subset (t := Finset.univ.map recvLocs) ?_) (Entails.of_eq ?_)
  · intro sm h
    obtain ⟨s, -, rfl⟩ := Finset.mem_map.mp h
    exact Finset.mem_erase.mpr ⟨fun h => reg_ne_recv _ h.symm, Finset.mem_univ _⟩
  · rw [bigSep_map]
    exact bigSep_congr fun s _ => congrArg (fun x => (cred x : sProp 𝕄)) (launch_at (recvCell s.succ c) N (total_recv s c))

/-! ## The duties' tokens, dealt to whoever pays -/

theorem tgt_inj (j : Fin 3) {a b : Dev nD} (h : tgt j a = tgt j b) : a = b := by
  have e : ∀ d : Dev nD, shift (7 * (![7, 1, 4] j)) (tgt j d) = d := fun d => shift_inv _ _ (by omega) d
  rw [← e a, ← e b, h]
theorem peer_inj (s : Fin 7) {a b : Dev nD} (h : peer s a = peer s b) : a = b := by
  have e : ∀ d : Dev nD, shift (7 * off s) (peer s d) = d := fun d => shift_inv _ _ (by omega) d
  rw [← e a, ← e b, h]

abbrev Tok := GSem nD τ sig × ℕ × Fin 3
def barToks : Dev nD × Fin 3 ↪ Tok := ⟨fun p => (barCell (tgt p.2 p.1), 0, p.2), fun a b h => by
  have h2 : a.2 = b.2 := congrArg (fun t : Tok => t.2.2) h
  have h1 : tgt a.2 a.1 = tgt b.2 b.1 := congrArg (fun t : Tok => t.1.1.1) h
  rw [h2] at h1
  exact Prod.ext (tgt_inj _ h1) h2⟩
theorem sendSem_inj : Function.Injective (fun s : Fin 7 => (SemLoc.dma (sendSem s) : SemLoc sig)) := by decide
def sendToks : Dev nD × Fin 7 ↪ Tok := ⟨fun p => (sendCell p.2 p.1, 0, 0), fun a b h =>
  Prod.ext (congrArg (fun t : Tok => t.1.1.1) h) (sendSem_inj (congrArg (fun t : Tok => t.1.2) h))⟩
def recvToks : Dev nD × Fin 7 ↪ Tok := ⟨fun p => (recvCell p.2.succ (peer p.2 p.1), 0, 0), fun a b h => by
  have h2 : a.2 = b.2 := Fin.succ_injective _ (recvSem_inj (congrArg (fun t : Tok => t.1.2) h))
  have h1 : peer a.2 a.1 = peer b.2 b.1 := congrArg (fun t : Tok => t.1.1.1) h
  rw [h2] at h1
  exact Prod.ext (peer_inj _ h1) h2⟩
def talkToks : Finset Tok := Finset.univ.map barToks ∪ (Finset.univ.map sendToks ∪ Finset.univ.map recvToks)

theorem sem_ne₁ : ∀ s : Fin 7, (SemLoc.reg barrier0 : SemLoc sig) ≠ .dma (sendSem s) := by decide
theorem sem_ne₃ : ∀ s t : Fin 7, (SemLoc.dma (sendSem s) : SemLoc sig) ≠ .dma (recvSem t.succ) := by decide

theorem toks_eq : bigSep talkToks (fun x => (dutyTok ER x.1 x.2.1 x.2.2 : sProp 𝕄))
    = iprop((bigSep Finset.univ fun c : Dev nD => bigSep Finset.univ fun j : Fin 3 => dutyTok ER (barCell (tgt j c)) 0 j) ∗
      (bigSep Finset.univ fun c : Dev nD => bigSep Finset.univ fun s : Fin 7 => dutyTok ER (sendCell s c) 0 0) ∗
      (bigSep Finset.univ fun c : Dev nD => bigSep Finset.univ fun s : Fin 7 => dutyTok ER (recvCell s.succ (peer s c)) 0 0)) := by
  unfold talkToks
  rw [bigSep_union, bigSep_union, bigSep_map, bigSep_map, bigSep_map, bigSep_univ_prod, bigSep_univ_prod, bigSep_univ_prod]
  · rfl
  · rw [Finset.disjoint_left]
    rintro x h₁ h₂
    obtain ⟨a, -, rfl⟩ := Finset.mem_map.mp h₁
    obtain ⟨b, -, h⟩ := Finset.mem_map.mp h₂
    exact sem_ne₃ a.2 b.2 (congrArg (fun t : Tok => t.1.2) h).symm
  · rw [Finset.disjoint_left]
    rintro x h₁ h₂
    obtain ⟨a, -, rfl⟩ := Finset.mem_map.mp h₁
    rcases Finset.mem_union.mp h₂ with h₂ | h₂
    · obtain ⟨b, -, h⟩ := Finset.mem_map.mp h₂
      exact sem_ne₁ b.2 (congrArg (fun t : Tok => t.1.2) h).symm
    · obtain ⟨b, -, h⟩ := Finset.mem_map.mp h₂
      exact reg_ne_recv b.2.succ (congrArg (fun t : Tok => t.1.2) h).symm

/-! ## The launch -/

theorem osem_ne_bar : ∀ k : Fin 15, osem k ≠ SemLoc.reg barrier0 := by decide
theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg (fun g : GSem nD τ sig => g.2) h)

def u₀ : UU :=
  (initOf (Pipeline.cells (Pipeline.pin (pcfgs (F := F)) adm) cellOf_inj) (Pipeline.launchToks (Pipeline.pin (pcfgs (F := F)) adm) cellOf_inj),
    launchOf barCells scCells talkToks)

/-- The protocol's launch element, kept with device 0 until everything is dealt. -/
def G (c : Dev nD) : sProp 𝕄 := if c = 0 then BI.own (ER (launchOf barCells scCells talkToks)) else iprop(emp)
theorem G_all : bigSep Finset.univ (G (F := F)) = (BI.own (ER (launchOf barCells scCells talkToks)) : sProp 𝕄) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

def R (c : Dev nD) : sProp 𝕄 := iprop(Tk m c ∗ (∃ r, prngReg c r) ∗ ∃ W, owes (c : Thread nD τ) (O₀ c) W)
abbrev T₀ (c : Dev nD) : sProp 𝕄 := iprop(StableHlo.held (c.tc : Thread nD τ) (Pipeline.ucRefs τ sig) (fun b => m (c, b)) ∗ R m c)

/-- A device's holdings outside the protocol's ghost state. -/
def bundle (c : Dev nD) : sProp 𝕄 :=
  iprop(StableHlo.held (c.tc : Thread nD τ) (Pipeline.ucRefs τ sig) (fun b => m (c, b)) ∗ credits c ∗ owes (c : Thread nD τ) (O₀ c) ∅ ∗ ∃ r, prngReg c r)

theorem T₀_intro (κ : GSem nD τ sig → ℕ) (c : Dev nD) : iprop(records (packOf m) κ ∗ (linear c ∗ bundle m c)) ⊢ T₀ m c := by
  unfold bundle T₀ R Tk
  iintro ⟨#HR, Hl, Hh, Hc, HO, Hp⟩
  isplitl [Hh]; · iexact Hh
  isplitl [Hl Hc]
  · isplitl [Hl]
    · iexists κ
      isplitr; · iexact HR
      iexact Hl
    iexact Hc
  isplitl [Hp]; · iexact Hp
  iexists ∅; iexact HO

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barrier0} from by decide, BI.bigSep_singleton]

theorem core (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(bundle m c ∗ (semVal (barCell c) 0 ∗ G c)) : sProp 𝕄) := by
  rw [show (unscopedBufs c (fun b => m ((c : Thread nD τ).loc b)) : sProp 𝕄) = StableHlo.held (c.tc : Thread nD τ) (Pipeline.ucRefs τ sig) (fun b => m (c, b))
      from Pipeline.unscopedBufs_held c (fun b => m (c, b)), unscopedSems0_eq]
  unfold bundle
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

theorem opens_eq : bigSep scCells (fun g => (openTok ER g : sProp 𝕄))
    = bigSep Finset.univ fun c : Dev nD => bigSep Finset.univ fun k : Fin 15 => openTok ER (scEmb (c, k)) := by
  unfold scCells; rw [bigSep_map, bigSep_univ_prod]
theorem bars_eq (Φ : GSem nD τ sig → sProp 𝕄) : bigSep barCells Φ = bigSep Finset.univ fun c : Dev nD => Φ (barCell c) := by
  unfold barCells; rw [bigSep_map]; rfl

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from bigSep_mono fun c _ => core m ρ c) $$ H
  ihave H2 := unzipped $$ H'; icases H2 with ⟨HB, H3⟩
  ihave H4 := unzipped $$ H3; icases H4 with ⟨Hv, HG⟩
  ihave Hu := (Entails.of_eq (G_all (F := F))) $$ HG
  imod (Rounds.fund_launch ER (sched (packOf m)) disjoint_cells (fun g _ h => h) talkToks) $$ [Hv Hu] with ⟨%κ, -, #Hinv, #Hr, Hat, Hopen, Htok⟩
  · isplitl [Hv]
    · iapply (Entails.of_eq (bars_eq (F := F) (fun g => semVal g 0)).symm) $$ Hv
    · iexact Hu
  imodintro
  iapply (bigSep_with_persistent (R := records (packOf m) κ) (Φ := fun c => iprop(linear c ∗ bundle m c)) fun c _ => T₀_intro m κ c)
  isplitr
  · unfold records
    isplitr; · iexact Hinv
    iexact Hr
  iapply zipped
  isplitr [HB]
  · unfold linear
    iapply zipped; isplitl [Hat]; · iapply (Entails.of_eq (bars_eq (F := F) (fun g => atPos ER g 0 ∅ 0))) $$ Hat
    iapply zipped; isplitl [Hopen]; · iapply (Entails.of_eq (opens_eq (F := F))) $$ Hopen
    ihave Htok := (Entails.of_eq (toks_eq (F := F))) $$ Htok
    icases Htok with ⟨Ha, Hb, Hc⟩
    iapply zipped; isplitl [Ha]; · iexact Ha
    iapply zipped; isplitl [Hb] <;> iassumption
  · iexact HB

end Cert.KernelIdeal.Talk

end
-- ==== Proof.KernelIdeal.Run.lean ====
module

public import proofs.«01_k».proof.Proof.KernelIdeal.Launch

@[expose] public section

noncomputable section

namespace Cert.KernelIdeal.Talk

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The run of `main` -/

def seg0 : Pipeline.HostSeg (Ix := Unit) (Name := ℕ) (U := UU) (Lvl := ℕ) (pcfgs (F := F)) defs₀ 𝒱₀ L lv :=
  Pipeline.HostSeg.ofOps _ _ _ _ _ (Pipeline.ucRefs τ sig) hostOps0
    (fun op h => Pipeline.sub_ucRefs op (List.forall_iff_forall_mem.mp hostOps0_sub op h)) (List.forall_iff_forall_mem.mp hostOps0_fresh) (fun c b => m (c, b)) (R m)

def segs : List (Pipeline.Seg (pcfgs (F := F)) adm (pdats m) () defs₀ 𝒱₀ L lv) := [.host (seg0 m), .region (reg m)]

theorem main_eq (c : Dev nD) : main (F := F) c = Pipeline.Seg.run (segs m) :=
  main_segs adm (pdats m) () 𝒱₀ L lv (seg0 m) (reg m) rfl c

theorem arrs_sub : Pipeline.arrRefs (τ := τ) spec0 ⊆ Pipeline.ucRefs τ sig :=
  Pipeline.arrRefs_sub_ucRefs spec0 (show ∀ w : Fin 5, (Pipeline.arrRef spec0 w).isScoped = false by decide)

theorem into (c : Dev nD) : (seg0 m).post c ⊢ (reg m).pre c := by
  show iprop(StableHlo.held (c.tc : Thread nD τ) (Pipeline.ucRefs τ sig) (W₁ m c) ∗ R m c)
    ⊢ iprop(StableHlo.held (c.tc : Thread nD τ) (Pipeline.arrRefs (τ := τ) (pcfgs (F := F) 0).spec) (W₁ m c) ∗ (∃ r, prngReg c r)
      ∗ (StableHlo.held (c.tc : Thread nD τ) others (W₁ m c) ∗ emp) ∗ Tk m c ∗ ∃ Wd, owes (c : Thread nD τ) (0 + O₀ c) Wd)
  rw [StableHlo.held_sub_split c.tc arrs_sub, zero_add]
  unfold R
  iintro ⟨⟨Ha, Ho⟩, Ht, Hp, HO⟩
  isplitl [Ha]; · iexact Ha
  isplitl [Hp]; · iexact Hp
  isplitl [Ho]
  · isplitl [Ho]; · iexact Ho
    iempintro
  isplitl [Ht]; · iexact Ht
  iexact HO

abbrev Tₙ (c : Dev nD) : sProp 𝕄 := iprop(StableHlo.held (c.tc : Thread nD τ) (Pipeline.ucRefs τ sig) (W₂ m c) ∗ semVal (barCell c) 0)

theorem outof (c : Dev nD) : (reg m).post c ⊢ iprop(Tₙ m c ∗ ∃ W, owes (c : Thread nD τ) (0 : CellTallies nD τ sig Unit) W) := by
  show iprop(StableHlo.held (c.tc : Thread nD τ) (Pipeline.arrRefs (τ := τ) (pcfgs (F := F) 0).spec) (W₂ m c) ∗ (∃ r, prngReg c r)
      ∗ (StableHlo.held (c.tc : Thread nD τ) others (W₂ m c) ∗ emp) ∗ Yk c ∗ ∃ Wd, owes (c : Thread nD τ) (0 : CellTallies nD τ sig Unit) Wd) ⊢ _
  unfold Tₙ Yk
  rw [StableHlo.held_sub_split c.tc arrs_sub (W₂ m c)]
  iintro ⟨Ha, -, ⟨Ho, -⟩, Hb, HO⟩
  isplitr [HO]
  · isplitl [Ha Ho]
    · isplitl [Ha] <;> iassumption
    iexact Hb
  iexact HO

/-- The buffers a caller sees. -/
def seen : Finset (DevRef τ sig) :=
  {Proc.devRef .tc main_arg0, Proc.devRef .tc main_arg1, Proc.devRef .tc main_arg2, Proc.devRef .tc main_arg3, Proc.devRef .tc main_arg4, Proc.devRef .tc main_v8}

theorem mem_uc {b : Ref sig .tc} (h : b.isScoped = false) : (Proc.devRef .tc b : DevRef τ sig) ∈ Pipeline.ucRefs τ sig :=
  Finset.mem_filter.mpr ⟨StableHlo.devRef_mem_tcRefs _, fun h' => Bool.false_ne_true (h.symm.trans h')⟩

theorem seen_sub : seen ⊆ Pipeline.ucRefs τ sig := by
  intro b hb
  simp only [seen, Finset.mem_insert, Finset.mem_singleton] at hb
  rcases hb with rfl | rfl | rfl | rfl | rfl | rfl <;> exact mem_uc (by decide)

theorem held_seen (c : Dev nD) (V : Valuation τ sig (Elt F)) : (StableHlo.held (c.tc : Thread nD τ) seen V : sProp 𝕄)
    = iprop(((c, Proc.devRef .tc main_arg0) ↦{fullShare} V (Proc.devRef .tc main_arg0)) ∗ ((c, Proc.devRef .tc main_arg1) ↦{fullShare} V (Proc.devRef .tc main_arg1))
      ∗ ((c, Proc.devRef .tc main_arg2) ↦{fullShare} V (Proc.devRef .tc main_arg2)) ∗ ((c, Proc.devRef .tc main_arg3) ↦{fullShare} V (Proc.devRef .tc main_arg3))
      ∗ ((c, Proc.devRef .tc main_arg4) ↦{fullShare} V (Proc.devRef .tc main_arg4)) ∗ ((c, Proc.devRef .tc main_v8) ↦{fullShare} V (Proc.devRef .tc main_v8))) := by
  unfold StableHlo.held seen
  rw [bigSep_insert (by decide), bigSep_insert (by decide), bigSep_insert (by decide), bigSep_insert (by decide), bigSep_insert (by decide), bigSep_singleton]
  rfl

/-- What a final memory holds on device `c`. -/
def Holds (c : Dev nD) (mem : (ℓ : Loc nD τ sig) → Buf (Elt F) ℓ) : Prop :=
  mem ((c : Thread nD τ).loc main_arg0) = m ((c : Thread nD τ).loc main_arg0) ∧ mem ((c : Thread nD τ).loc main_arg1) = m ((c : Thread nD τ).loc main_arg1)
  ∧ mem ((c : Thread nD τ).loc main_arg2) = m ((c : Thread nD τ).loc main_arg2) ∧ mem ((c : Thread nD τ).loc main_arg3) = m ((c : Thread nD τ).loc main_arg3)
  ∧ mem ((c : Thread nD τ).loc main_arg4) = m ((c : Thread nD τ).loc main_arg4) ∧ mem ((c : Thread nD τ).loc main_v8) = resOf m c

theorem unscoped_eq : ∀ sm : SemLoc sig, sm.isScoped .tc = false → sm = .reg barrier0 := by decide

theorem read (c : Dev nD) (s' : Phys nD τ sig (Elt F)) : iprop(Tₙ m c ∗ SI s') ⊢ (|={Set.univ}=> iprop(⌜Holds m c s'.mem.mem ∧ s'.mem.sem (barCell c) = 0⌝ ∗ SI s') : sProp 𝕄) := by
  unfold Tₙ
  rw [StableHlo.held_sub_split c.tc seen_sub, held_seen]
  iintro ⟨⟨⟨⟨H0, H1, H2, H3, H4, H8⟩, -⟩, Hb⟩, HSI⟩
  icombine HSI H0 gives %h0
  icombine HSI H1 gives %h1
  icombine HSI H2 gives %h2
  icombine HSI H3 gives %h3
  icombine HSI H4 gives %h4
  icombine HSI H8 gives %h8
  icombine HSI Hb gives %hb
  imodintro
  isplitr
  · ipureintro
    refine ⟨⟨?_, ?_, ?_, ?_, ?_, ?_⟩, by simpa using hb⟩
    · exact (Buf.eq_of_forall_mem_univ h0).trans ((W₂_ne m c main_arg0 (by decide)).trans (V_main_arg0 m c))
    · exact (Buf.eq_of_forall_mem_univ h1).trans ((W₂_ne m c main_arg1 (by decide)).trans (V_main_arg1 m c))
    · exact (Buf.eq_of_forall_mem_univ h2).trans ((W₂_ne m c main_arg2 (by decide)).trans (V_main_arg2 m c))
    · exact (Buf.eq_of_forall_mem_univ h3).trans ((W₂_ne m c main_arg3 (by decide)).trans (V_main_arg3 m c))
    · exact (Buf.eq_of_forall_mem_univ h4).trans ((W₂_ne m c main_arg4 (by decide)).trans (V_main_arg4 m c))
    · exact (Buf.eq_of_forall_mem_univ h8).trans (W₂_out m c)
  iexact HSI

set_option backward.isDefEq.respectTransparency.types false in
/-- Every fair run from zero counters terminates; it leaves the arguments, writes `resOf m c` on each device, and returns every counter to zero. -/
theorem run_main : θ_run defs (onTc (τ := τ) (main (F := F))) (s₀ m ρ)
    (fun r => (∀ c : Dev nD, Holds m c r.2.mem) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := ⟨fun c => .rfl, into m, outof m⟩)
    (hinit := init m ρ)
    (QY := fun c s => Holds m c s.mem ∧ s.sem (barCell c) = 0)
    (hfin := read m)
    (hQ := fun s h hs => ⟨fun c => (h c).1,
      sem_eq_zero hs fun c sm hsm => by
        obtain rfl := unscoped_eq sm hsm
        exact (h c).2⟩)

end Cert.KernelIdeal.Talk

end
-- ==== Proof.Value.Math.lean ====
/-
The extended-real equations between the kernel's attention and the reference's: sums of real values, a masked softmax taken with
and without the maximum subtracted, the scale taken inside and outside the scores.
-/
module

public import Idealize.ShloMosaic.PureOps.Ideal.Laws
public import Mathlib.Data.Finset.Fold
public import Idealize.ShloMosaic.Lib.IdealHost

@[expose] public section

noncomputable section

namespace Cert.Value

open Idealize.ShloMosaic

theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem sum_mul_pos {ι : Type} (s : Finset ι) (f : ι → EReal) {c : ℝ} (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

theorem div_coe (x : EReal) {c : ℝ} (hc : c ≠ 0) : Ideal.div x (c : EReal) = x * ((c⁻¹ : ℝ) : EReal) := by
  unfold Ideal.div
  rw [if_neg (by exact_mod_cast hc), EReal.coe_inv]

/-- The kernel's row of a masked softmax, summed against `V`, is the reference's, whatever real is subtracted there. -/
theorem softmax {n : ℕ} (r : Fin n → ℝ) (P : Fin n → Prop) [DecidablePred P] (hP : ∃ j, P j) (M : ℝ) (V : Fin n → EReal) :
    (∑ j, Ideal.exp ((r j : EReal) + if P j then 0 else ⊥) * V j) * Ideal.div 1 (∑ j, Ideal.exp ((r j : EReal) + if P j then 0 else ⊥))
      = ∑ j, V j * Ideal.div (Ideal.exp ((if P j then (r j : EReal) else ⊥) - (M : EReal))) (∑ k, Ideal.exp ((if P k then (r k : EReal) else ⊥) - (M : EReal))) := by
  have he : ∀ j, Ideal.exp ((r j : EReal) + if P j then 0 else ⊥) = ((if P j then Real.exp (r j) else 0 : ℝ) : EReal) := fun j => by
    by_cases h : P j
    · simp only [if_pos h, add_zero]; rfl
    · simp only [if_neg h, EReal.add_bot, EReal.coe_zero]; rfl
  have hw : ∀ j, Ideal.exp ((if P j then (r j : EReal) else ⊥) - (M : EReal)) = ((if P j then Real.exp (r j - M) else 0 : ℝ) : EReal) := fun j => by
    by_cases h : P j
    · simp only [if_pos h, ← EReal.coe_sub]; rfl
    · simp only [if_neg h, EReal.bot_sub, EReal.coe_zero]; rfl
  have hew : ∀ j, (if P j then Real.exp (r j) else 0 : ℝ) = Real.exp M * (if P j then Real.exp (r j - M) else 0 : ℝ) := fun j => by
    by_cases h : P j
    · rw [if_pos h, if_pos h, ← Real.exp_add]; congr 1; ring
    · rw [if_neg h, if_neg h, mul_zero]
  simp only [he, hw, sum_coe]
  have hT : (0 : ℝ) < ∑ j, (if P j then Real.exp (r j - M) else 0 : ℝ) := by
    obtain ⟨j, hj⟩ := hP
    refine Finset.sum_pos' (fun i _ => by split <;> positivity) ⟨j, Finset.mem_univ _, by rw [if_pos hj]; positivity⟩
  have hS : (∑ j, (if P j then Real.exp (r j) else 0 : ℝ)) = Real.exp M * ∑ j, (if P j then Real.exp (r j - M) else 0 : ℝ) := by
    rw [Finset.mul_sum]; exact Finset.sum_congr rfl fun j _ => hew j
  have hS0 : (0 : ℝ) < ∑ j, (if P j then Real.exp (r j) else 0 : ℝ) := by rw [hS]; positivity
  rw [div_coe _ hS0.ne', one_mul, sum_mul_pos _ _ (inv_nonneg.mpr hS0.le)]
  refine Finset.sum_congr rfl fun j _ => ?_
  rw [div_coe _ hT.ne', mul_comm _ (V j), mul_assoc, ← EReal.coe_mul, ← EReal.coe_mul, hew j, hS]
  congr 2
  have := Real.exp_pos M
  field_simp

/-- The maximum of a masked row of reals is a real. -/
theorem max_real {n : ℕ} (r : Fin n → ℝ) (P : Fin n → Prop) [DecidablePred P] (hP : ∃ j, P j) :
    ∃ M : ℝ, (Finset.univ : Finset (Fin n)).fold max (⊥ : EReal) (fun j => if P j then (r j : EReal) else ⊥) = (M : EReal) := by
  obtain ⟨j, hj⟩ := hP
  have h1 : (Finset.univ : Finset (Fin n)).fold max (⊥ : EReal) (fun j => if P j then (r j : EReal) else ⊥) < ⊤ :=
    (Finset.fold_max_lt _).mpr ⟨bot_lt_top, fun i _ => by
      split
      · exact EReal.coe_lt_top _
      · exact bot_lt_top⟩
  have h2 : ((r j : ℝ) : EReal) ≤ (Finset.univ : Finset (Fin n)).fold max (⊥ : EReal) (fun j => if P j then (r j : EReal) else ⊥) :=
    (Finset.le_fold_max _).mpr (.inr ⟨j, Finset.mem_univ _, by rw [if_pos hj]⟩)
  exact ⟨_, (EReal.coe_toReal h1.ne (((EReal.bot_lt_coe _).trans_le h2).ne')).symm⟩

/-- The scores: the scale inside the query weights, or outside. -/
theorem scores {p q : ℕ} (X : Fin p → ℝ) (W : Fin p → Fin q → ℝ) (K : Fin q → ℝ) (a : ℝ) :
    (∑ d, (∑ k, (X k : EReal) * ((W k d : EReal) * (a : EReal))) * (K d : EReal) = ((∑ d, (∑ k, X k * W k d) * K d) * a : ℝ))
    ∧ (∑ d, (∑ k, (X k : EReal) * (W k d : EReal)) * (K d : EReal)) * (a : EReal) = ((∑ d, (∑ k, X k * W k d) * K d) * a : ℝ) := by
  simp only [← EReal.coe_mul, sum_coe]
  refine ⟨congrArg _ ?_, trivial⟩
  rw [Finset.sum_mul]
  refine Finset.sum_congr rfl fun d _ => ?_
  rw [Finset.sum_mul, Finset.sum_mul, Finset.sum_mul]
  exact Finset.sum_congr rfl fun k _ => by ring

/-- A sum over eight blocks of 512, the blocks in any order. -/
theorem sum_blocks (f : Fin 4096 → EReal) (e : Fin 8 → Fin 8) (he : Function.Bijective e) :
    ∑ n : Fin 8, ∑ l : Fin 512, f ⟨512 * (e n).val + l.val, by have := (e n).isLt; have := l.isLt; omega⟩ = ∑ i, f i := by
  rw [he.sum_comp (fun d : Fin 8 => ∑ l : Fin 512, f ⟨512 * d.val + l.val, by have := d.isLt; have := l.isLt; omega⟩)]
  rw [← Equiv.sum_comp (finProdFinEquiv (m := 8) (n := 512)) f, Fintype.sum_prod_type]
  refine Finset.sum_congr rfl fun d _ => Finset.sum_congr rfl fun l _ => congrArg f (Fin.ext ?_)
  show 512 * d.val + l.val = l.val + 512 * d.val
  omega

theorem eighth_bf16 : Ideal.ofBits .bf16 0x3E00#16 = (((1 : ℝ) / 8 : ℝ) : EReal) := by
  simp [Ideal.ofBits, Ideal.ieee, -EReal.coe_mul]; norm_num
theorem eighth_f32 : Ideal.ofBits .f32 0x3E000000#32 = (((1 : ℝ) / 8 : ℝ) : EReal) := by
  simp [Ideal.ofBits, Ideal.ieee, -EReal.coe_mul]; norm_num
theorem inf_bf16 : Ideal.ofBits .bf16 0x7F80#16 = ⊤ := by simp [Ideal.ofBits, Ideal.ieee]
theorem ninf_f32 : Ideal.ofBits .f32 0xFF800000#32 = ⊥ := by simp [Ideal.ofBits, Ideal.ieee]

/-- What the precondition compares: an absolute value below infinity is a real's. -/
theorem real_of_lt (x : EReal) (h : Ideal.cmp .olt (max x (-x)) ⊤ = 1#1) : ∃ r : ℝ, x = (r : EReal) := by
  induction x with
  | bot => simp [Ideal.cmp] at h
  | top => simp [Ideal.cmp] at h
  | coe r => exact ⟨r, rfl⟩

end Cert.Value

end
-- ==== Proof.Value.Entry.lean ====
/-
What the host hands the kernel, read at an index: the activations flattened, the packet of weights, the keys and the values with
their rows last.
-/
module

public import proofs.«01_k».proof.Proof.KernelIdeal.Call
public import proofs.«01_k».proof.Proof.Value.Math
public import Idealize.ShloMosaic.Lib.Pipeline.Value
public import Idealize.ShloMosaic.Lib.ValueLayout
public import Idealize.ShloMosaic.Lib.ValueLayoutCasts

@[expose] public section

noncomputable section

namespace Cert.Value

open Cert.KernelIdeal Cert.KernelIdeal.Gen Cert.KernelIdeal.Talk
open Idealize.ShloMosaic Idealize.ShloMosaic.TcCoe
open Idealize.ShloMosaic.ValueIdx

variable (m : (ℓ : Loc nD τ sig) → Buf (Elt Ideal) ℓ) (c : Dev nD)

/-- The arguments of device `c`. -/
def a0 : FVec Ideal S2x512x768 .bf16 := m ((c : Thread nD τ).loc main_arg0)
def a1 : FVec Ideal S768x512 .bf16 := m ((c : Thread nD τ).loc main_arg1)
def a2 : FVec Ideal S2x512x64x64 .bf16 := m ((c : Thread nD τ).loc main_arg2)
def a3 : FVec Ideal S2x512x64x64 .bf16 := m ((c : Thread nD τ).loc main_arg3)
def a4 : FVec Ideal S512x768 .bf16 := m ((c : Thread nD τ).loc main_arg4)

theorem xOf_eq : xOf m c = shapeCast S1024x768 (a0 m c) shapeCasts_S2x512x768_S1024x768 := by
  show StableHlo.after hostOps0 _ (Proc.devRef .tc main_v1) = _
  after_results
  rfl

theorem packOf_eq : packOf m c = concatenate S768x1024 1
    [⟨S768x512, mulf (a1 m c) (broadcastInDim S768x512 ![] bcast_S_S768x512 (constant S_ .bf16 0x3E00#16))⟩,
     ⟨S768x512, transpose S768x512 [1, 0] (a4 m c) transposes_S512x768_S768x512_1_0⟩] concatenates_S768x512_S768x512_S768x1024_d1 := by
  show StableHlo.after hostOps0 _ (Proc.devRef .tc main_v5) = _
  after_results
  rfl

theorem keysOf_eq : keysOf m c = transpose S2x64x64x512 [0, 2, 3, 1] (a2 m c) transposes_S2x512x64x64_S2x64x64x512_0_2_3_1 := by
  show StableHlo.after hostOps0 _ (Proc.devRef .tc main_v6) = _
  after_results
  rfl

theorem valsOf_eq : valsOf m c = transpose S2x64x64x512 [0, 2, 3, 1] (a3 m c) transposes_S2x512x64x64_S2x64x64x512_0_2_3_1 := by
  show StableHlo.after hostOps0 _ (Proc.devRef .tc main_v7) = _
  after_results
  rfl

theorem xOf_at (b : Fin 2) (i : Fin 512) (k : Fin 768) (r : Fin 1024) (hr : r.val = 512 * b.val + i.val) : xOf m c (ix2 r k) = a0 m c (ix3 b i k) := by
  rw [xOf_eq]
  refine shapeCast_apply _ _ _ _ ?_
  rw [Shape.rowMajor_val_three, Shape.rowMajor_val_two]
  show (b.val * 512 + i.val) * 768 + k.val = r.val * 768 + k.val
  omega

theorem packOf_query (k : Fin 768) (l : Fin 512) : packOf m c (ix2 k ⟨l.val, by omega⟩) = a1 m c (ix2 k l) * (((1 : ℝ) / 8 : ℝ) : EReal) := by
  rw [packOf_eq]
  refine (concatenate_pair_apply_left (t := S768x1024) (s₁ := S768x512) (s₂ := S768x512) (1 : Fin 2) _ _ _ _ rfl (ix2 k l) fun a => ?_).trans ?_
  · match a with
    | ⟨0, _⟩ => rfl
    | ⟨1, _⟩ => rfl
  · exact congrArg (fun z : EReal => a1 m c (ix2 k l) * z) eighth_bf16

theorem packOf_out (y : Fin 768) (l : Fin 512) : packOf m c (ix2 y ⟨512 + l.val, by omega⟩) = a4 m c (ix2 l y) := by
  rw [packOf_eq]
  refine (concatenate_pair_apply_right (t := S768x1024) (s₁ := S768x512) (s₂ := S768x512) (1 : Fin 2) _ _ _ _ rfl rfl (ix2 y l) (fun a ha => ?_) ?_).trans ?_
  · match a with
    | ⟨0, _⟩ => rfl
    | ⟨1, _⟩ => exact absurd rfl ha
  · show l.val + 512 = 512 + l.val; omega
  · refine transpose_apply _ _ _ _ _ fun a => ?_
    match a with
    | ⟨0, _⟩ => rfl
    | ⟨1, _⟩ => rfl

theorem keysOf_at (b : Fin 2) (h e : Fin 64) (j : Fin 512) : keysOf m c (ix4 b h e j) = a2 m c (ix4 b j h e) := by
  rw [keysOf_eq]
  refine transpose_apply _ _ _ _ _ fun a => ?_
  match a with
  | ⟨0, _⟩ => rfl
  | ⟨1, _⟩ => rfl
  | ⟨2, _⟩ => rfl
  | ⟨3, _⟩ => rfl

theorem valsOf_at (b : Fin 2) (h e : Fin 64) (j : Fin 512) : valsOf m c (ix4 b h e j) = a3 m c (ix4 b j h e) := by
  rw [valsOf_eq]
  refine transpose_apply _ _ _ _ _ fun a => ?_
  match a with
  | ⟨0, _⟩ => rfl
  | ⟨1, _⟩ => rfl
  | ⟨2, _⟩ => rfl
  | ⟨3, _⟩ => rfl

end Cert.Value

end
-- ==== Proof.Value.Mask.lean ====
/-
The block mask as words: the floor division by 64 and the remainder by 4 that the kernel and the reference each spell out, at the
positions they are taken at, and the two masks as one proposition on positions.
-/
module

public import Idealize.ShloMosaic.PureOps.Vector

@[expose] public section

namespace Cert.Value

open Idealize.ShloMosaic

/-- The sign of a word. -/
def signW (x : BitVec 32) : BitVec 32 := if x = 0 then 0 else if x.msb then -1 else 1

/-- The reference's floor division by 64, at a word. -/
def floorH (x : BitVec 32) : BitVec 32 :=
  Scalar.select
    (IntOp.andi (IntOp.cmpi .ne (signW x) (signW 64#32))
      (IntOp.cmpi .ne (IntOp.remsi .host x 64#32) 0#32))
    (IntOp.subi (IntOp.divsi .host x 64#32) 1#32) (IntOp.divsi .host x 64#32)

/-- The divisor of the remainders, guarded against zero. -/
def four : BitVec 32 := Scalar.select (IntOp.cmpi .eq 4#32 0#32) 1#32 4#32

/-- The reference's remainder by 4. -/
def modH (x : BitVec 32) : BitVec 32 :=
  Scalar.select
    (IntOp.andi (IntOp.cmpi .ne (IntOp.cmpi .slt (IntOp.remsi .host x four) 0#32) (IntOp.cmpi .slt four 0#32)) (IntOp.cmpi .ne (IntOp.remsi .host x four) 0#32))
    (IntOp.addi (IntOp.remsi .host x four) four) (IntOp.remsi .host x four)

/-- The kernel's floor division by 64. -/
def floorK (x : BitVec 32) : BitVec 32 :=
  Scalar.select
    (IntOp.andi
      (IntOp.cmpi .ne (IntOp.subi (Scalar.extui (IntOp.cmpi .sgt x 0#32)) (Scalar.extui (IntOp.cmpi .slt x 0#32)))
        (IntOp.subi (Scalar.extui (IntOp.cmpi .sgt 64#32 0#32)) (Scalar.extui (IntOp.cmpi .slt 64#32 0#32))))
      (IntOp.cmpi .ne (IntOp.remsi .vector x 64#32) 0#32))
    (IntOp.subi (IntOp.divsi .vector x 64#32) 1#32) (IntOp.divsi .vector x 64#32)

/-- The kernel's remainder by 4. -/
def modK (x : BitVec 32) : BitVec 32 :=
  Scalar.select
    (IntOp.andi (IntOp.xori (IntOp.cmpi .slt (IntOp.remsi .vector x four) 0#32) (IntOp.cmpi .slt four 0#32)) (IntOp.cmpi .ne (IntOp.remsi .vector x four) 0#32))
    (IntOp.addi (IntOp.remsi .vector x four) four) (IntOp.remsi .vector x four)

theorem floorH_eq : ∀ n : Fin 4096, floorH (BitVec.ofNat 32 n.val) = BitVec.ofNat 32 (n.val / 64) := by decide +kernel
theorem modH_eq : ∀ n : Fin 64, modH (BitVec.ofNat 32 n.val) = BitVec.ofNat 32 (n.val % 4) := by decide +kernel
theorem floorK_eq : ∀ n : Fin 512, floorK (BitVec.ofNat 32 n.val) = BitVec.ofNat 32 (n.val / 64) := by decide +kernel
theorem modK_eq : ∀ n : Fin 8, modK (BitVec.ofNat 32 n.val) = BitVec.ofNat 32 (n.val % 4) := by decide +kernel

/-- The reference's mask on block numbers: equal blocks are equal remainders as well. -/
theorem blocksH : ∀ (a : Fin 64) (b : Fin 8),
    IntOp.ori (IntOp.cmpi .eq (BitVec.ofNat 32 a.val) (BitVec.ofNat 32 b.val)) (IntOp.cmpi .eq (BitVec.ofNat 32 (b.val % 4)) (BitVec.ofNat 32 (a.val % 4)))
      = if a.val % 4 = b.val % 4 then 1#1 else 0#1 := by decide +kernel
/-- The kernel's. -/
theorem blocksK : ∀ (a b : Fin 4),
    IntOp.cmpi .eq (BitVec.ofNat 32 a.val) (BitVec.ofNat 32 b.val) = if a = b then 1#1 else 0#1 := by decide +kernel

/-- Row `i` (of 512 or of 4096) attends column `j`. -/
def Sees (i j : ℕ) : Prop := i / 64 % 4 = j / 64 % 4
instance (i j : ℕ) : Decidable (Sees i j) := inferInstanceAs (Decidable (_ = _))

theorem maskH (i : Fin 4096) (j : Fin 512) :
    IntOp.ori (IntOp.cmpi .eq (floorH (BitVec.ofNat 32 i.val)) (floorH (BitVec.ofNat 32 j.val)))
      (IntOp.cmpi .eq (modH (floorH (BitVec.ofNat 32 j.val))) (modH (floorH (BitVec.ofNat 32 i.val)))) = if Sees i.val j.val then 1#1 else 0#1 := by
  have hi := i.isLt
  have hj := j.isLt
  rw [floorH_eq i, floorH_eq ⟨j.val, by omega⟩, modH_eq ⟨i.val / 64, by omega⟩, modH_eq ⟨j.val / 64, by omega⟩]
  exact blocksH ⟨i.val / 64, by omega⟩ ⟨j.val / 64, by omega⟩

theorem maskK (i j : Fin 512) :
    IntOp.cmpi .eq (modK (floorK (BitVec.ofNat 32 i.val))) (modK (floorK (BitVec.ofNat 32 j.val))) = if Sees i.val j.val then 1#1 else 0#1 := by
  have hi := i.isLt
  have hj := j.isLt
  rw [floorK_eq i, floorK_eq j, modK_eq ⟨i.val / 64, by omega⟩, modK_eq ⟨j.val / 64, by omega⟩]
  refine (blocksK ⟨i.val / 64 % 4, by omega⟩ ⟨j.val / 64 % 4, by omega⟩).trans (if_congr ?_ rfl rfl)
  exact Fin.ext_iff

/-- Every row attends a column. -/
theorem sees_some (i : ℕ) : ∃ j : Fin 512, Sees i j.val := ⟨⟨64 * (i / 64 % 4), by omega⟩, by unfold Sees; show _ = 64 * (i / 64 % 4) / 64 % 4; omega⟩
/-- A device's rows start at a multiple of 256. -/
theorem sees_shift (c i j : ℕ) : Sees (512 * c + i) j ↔ Sees i j := by unfold Sees; omega

end Cert.Value
-- ==== Proof.Value.Ker.lean ====
/-
The kernel's stages read at an index, over the extended reals: the scores, a head's attention, the accumulator after every slot.
-/
module

public import proofs.«01_k».proof.Proof.KernelIdeal.Attend
public import proofs.«01_k».proof.Proof.Value.Mask
public import Idealize.ShloMosaic.Lib.MatmulPlain
public import Idealize.ShloMosaic.Lib.IdealHost
public import Idealize.ShloMosaic.Lib.Pipeline.Value
public import Idealize.ShloMosaic.Lib.ValueLayout
public import Idealize.ShloMosaic.Lib.ValueLayoutCasts
public import Idealize.ShloMosaic.PureOps.Ideal.Laws

@[expose] public section

noncomputable section

namespace Cert.Value

open Cert.KernelIdeal Cert.KernelIdeal.Gen Cert.KernelIdeal.Talk
open Idealize.ShloMosaic
open Idealize.ShloMosaic.ValueIdx

/-- One row of one head as the kernel takes it: the exponentials summed against the values, times the reciprocal of their sum. -/
def attn (q : Fin 64 → EReal) (K : Fin 64 → Fin 512 → EReal) (v bias : Fin 512 → EReal) : EReal :=
  (∑ j, Ideal.exp ((∑ e, q e * K e j) + bias j) * v j) * Ideal.div 1 (∑ j, Ideal.exp ((∑ e, q e * K e j) + bias j))

theorem const_zero (s : Shape) (i : s.Idx) : constant (F := Ideal) s .f32 0x00000000#32 i = (0 : EReal) := Ideal.ofBits_zero_f32

theorem cast_head (k : FVec Ideal S1x1x64x512 .bf16) (e : Fin 64) (j : Fin 512) :
    shapeCast S64x512 k shapeCasts_S1x1x64x512_S64x512 (ix2 e j) = k (ix4 0 0 e j) :=
  shapeCast_apply k _ _ _ (by
    rw [Shape.rowMajor_val_four, Shape.rowMajor_val_two]
    show ((0 * 1 + 0) * 64 + e.val) * 512 + j.val = e.val * 512 + j.val
    omega)

theorem scores_at (q : FVec Ideal S512x64 .bf16) (k : FVec Ideal S1x1x64x512 .bf16) (bias : FVec Ideal S512x512 .f32) (i j : Fin 512) :
    exp (addf (matmul dot_S512x64_S64x512_S512x512_1_0_0_1_n_n none q (shapeCast S64x512 k shapeCasts_S1x1x64x512_S64x512)
      (constant (F := Ideal) S512x512 .f32 0x00000000#32)) bias) (ix2 i j)
      = Ideal.exp ((∑ e : Fin 64, q (ix2 i e) * k (ix4 0 0 e j)) + bias (ix2 i j)) := by
  refine congrArg (fun z => Ideal.exp (z + bias (ix2 i j))) ?_
  refine (Ideal.matmul_plain_apply none q (shapeCast S64x512 k shapeCasts_S1x1x64x512_S64x512) _ i j).trans ?_
  rw [const_zero, zero_add]
  exact Finset.sum_congr rfl fun e _ => congrArg _ (cast_head k e j)

/-- The exponentials `E` summed against the values and divided by their sum. -/
theorem context_at (E : FVec Ideal S512x512 .f32) (v : FVec Ideal S1x1x64x512 .bf16) (i : Fin 512) (d : Fin 64) :
    truncf .bf16 (mulf
      (matmul dot_S512x512_S64x512_S512x64_1_1_0_0_n_n none (truncf .bf16 E bitsLt_bf16_f32) (shapeCast S64x512 v shapeCasts_S1x1x64x512_S64x512)
        (constant (F := Ideal) S512x64 .f32 0x00000000#32))
      (broadcastTo S512x64 (divf (broadcast S512x1 (Scalar.ofBits (F := Ideal) .f32 0x3F800000#32))
        (shapeCast S512x1 (multiReduction .add [1] S512 E 0x00000000#32 reduces_S512x512_S512 (.inl rfl) rfl) shapeCasts_S512_S512x1))
        broadcasts_S512x1_S512x64)) bitsLt_bf16_f32 (ix2 i d)
      = (∑ j : Fin 512, E (ix2 i j) * v (ix4 0 0 d j)) * Ideal.div 1 (∑ j : Fin 512, E (ix2 i j)) := by
  refine congrArg₂ (fun a b : EReal => a * b) ?_ ?_
  · refine (Ideal.matmul_transposedRhs_apply none (truncf .bf16 E bitsLt_bf16_f32) (shapeCast S64x512 v shapeCasts_S1x1x64x512_S64x512) _ i d).trans ?_
    rw [const_zero, zero_add]
    exact Finset.sum_congr rfl fun j _ => congrArg (E (ix2 i j) * ·) (cast_head v d j)
  · refine (broadcastTo_apply _ broadcasts_S512x1_S512x64 (ix2 i d) (ix2 i 0) fun a => ?_).trans ?_
    · match a with
      | ⟨0, _⟩ => rfl
      | ⟨1, _⟩ => rfl
    · refine congrArg₂ Ideal.div Ideal.ofBits_one_f32 ?_
      refine (shapeCast_a_a1_apply _ shapeCasts_S512_S512x1 i 0).trans ?_
      refine (Ideal.multiReduction_add_single E _ reduces_S512x512_S512 _ _ (ix1 i)).trans ?_
      refine Finset.sum_congr rfl fun j _ => congrArg E (funext fun a => Fin.ext ?_)
      match a with
      | ⟨0, _⟩ => rfl
      | ⟨1, _⟩ => rfl

/-- Both heads of a pair, read at row `i` and column `64 sub + d`. -/
theorem ctxOf_at (bias : FVec Ideal S512x512 .f32) (Q : FVec Ideal S1024x512 .bf16) (K V : FVec Ideal S2x64x64x512 .bf16) (dv : Dev nD) (b : Fin 2) (t : Fin 4)
    (sub : Fin 2) (i : Fin 512) (d : Fin 64) (r : Fin 1024) (hr : r.val = 512 * b.val + i.val) (cc : Fin 128) (hc : cc.val = 64 * sub.val + d.val) :
    ctxOf bias Q K V dv b t (ix2 i cc)
      = attn (fun e => Q (ix2 r ⟨128 * t.val + 64 * sub.val + e.val, by omega⟩)) (fun e j => K (ix4 b (headOf dv t sub) e j))
          (fun j => V (ix4 b (headOf dv t sub) d j)) (fun j => bias (ix2 i j)) := by
  have hq : ∀ (o : ℕ) (h : (S512x128).Slices ![0, o] S512x64) (e : Fin 64) (ho : o = 64 * sub.val),
      extractStridedSlice S512x64 ![0, o] (qsub Q b t) h (ix2 i e) = Q (ix2 r ⟨128 * t.val + 64 * sub.val + e.val, by omega⟩) := fun o h e ho => by
    refine (slice2_axis1_apply o (qsub Q b t) h i e ⟨o + e.val, by omega⟩ rfl).trans ?_
    unfold qsub
    refine congrArg Q (congrArg₂ ix2 (Fin.ext ?_) (Fin.ext ?_))
    · show 512 * b.val + i.val = r.val; omega
    · show 128 * t.val + (o + e.val) = 128 * t.val + 64 * sub.val + e.val; omega
  unfold ctxOf pairCtx
  fin_cases sub
  · dsimp only [k0_pay3, k0_pay1, k0_pay2]
    refine (congrFun (shapeCast_self _ _) _).trans ?_
    refine (concatenate_pair_apply_left (s₁ := S512x64) (s₂ := S512x64) (1 : Fin 2) _ _ _ (ix2 i cc) rfl (ix2 i d) fun a => ?_).trans ?_
    · match a with
      | ⟨0, _⟩ => rfl
      | ⟨1, _⟩ => show d.val = cc.val; simpa using hc.symm
    · refine (context_at _ _ i d).trans ?_
      unfold attn
      simp only [scores_at, hq 0 _ _ rfl]
      rfl
  · dsimp only [k0_pay3, k0_pay1, k0_pay2]
    refine (congrFun (shapeCast_self _ _) _).trans ?_
    refine (concatenate_pair_apply_right (s₁ := S512x64) (s₂ := S512x64) (1 : Fin 2) _ _ _ (ix2 i cc) rfl rfl (ix2 i d) (fun a ha => ?_) ?_).trans ?_
    · match a with
      | ⟨0, _⟩ => rfl
      | ⟨1, _⟩ => exact absurd rfl ha
    · show d.val + 64 = cc.val; rw [hc]; show d.val + 64 = 64 * 1 + d.val; omega
    · refine (context_at _ _ i d).trans ?_
      unfold attn
      simp only [scores_at, hq 64 _ _ rfl]
      rfl

/-- The context buffer at row `i` of batch `b` and column `l`. -/
theorem ctxV_val (bias : FVec Ideal S512x512 .f32) (Q : FVec Ideal S1024x512 .bf16) (K V : FVec Ideal S2x64x64x512 .bf16) (dv : Dev nD) (b : Fin 2)
    (i : Fin 512) (l : Fin 512) (r : Fin 1024) (hr : r.val = 512 * b.val + i.val) (h : Fin 64) (hh : h.val = 8 * dv.val + l.val / 64) :
    ctxV bias Q K V dv (ix2 r l)
      = attn (fun e => Q (ix2 r ⟨64 * (l.val / 64) + e.val, by omega⟩)) (fun e j => K (ix4 b h e j))
          (fun j => V (ix4 b h ⟨l.val % 64, by omega⟩ j)) (fun j => bias (ix2 i j)) := by
  have hl := l.isLt
  have eh : headOf dv ⟨l.val / 128, by omega⟩ ⟨l.val / 64 % 2, by omega⟩ = h := Fin.ext (by
    show 8 * dv.val + 2 * (l.val / 128) + l.val / 64 % 2 = h.val; omega)
  rw [ctxV_at bias Q K V dv b ⟨l.val / 128, by omega⟩ (ix2 i ⟨l.val % 128, by omega⟩) (ix2 r l) hr (by show l.val = 128 * (l.val / 128) + l.val % 128; omega),
    ctxOf_at bias Q K V dv b ⟨l.val / 128, by omega⟩ ⟨l.val / 64 % 2, by omega⟩ i ⟨l.val % 64, by omega⟩ r hr ⟨l.val % 128, by omega⟩
      (by show l.val % 128 = 64 * (l.val / 64 % 2) + l.val % 64; omega), eh]
  refine congrArg (fun q => attn q _ _ _) (funext fun e => congrArg (fun z => Q (ix2 r z)) (Fin.ext ?_))
  show 128 * (l.val / 128) + 64 * (l.val / 64 % 2) + e.val = 64 * (l.val / 64) + e.val
  omega

theorem queries_at (X : FVec Ideal S1024x768 .bf16) (W : FVec Ideal S768x1024 .bf16) (r : Fin 1024) (l : Fin 512) :
    k0_pay62 X (wqOf W) (ix2 r l) = ∑ k : Fin 768, X (ix2 r k) * W (ix2 k ⟨l.val, by omega⟩) := by
  dsimp only [k0_pay62]
  refine (congrFun (shapeCast_self _ _) _).trans ?_
  refine (Ideal.matmul_plain_apply none (shapeCast S1024x768 X shapeCasts_S1024x768_S1024x768) (shapeCast S768x512 (wqOf W) shapeCasts_S1x768x512_S768x512) _ r l).trans ?_
  rw [const_zero, zero_add, shapeCast_self]
  exact Finset.sum_congr rfl fun k _ => congrArg (X (ix2 r k) * ·) (shapeCast_1ab_ab_apply (wqOf W) shapeCasts_S1x768x512_S768x512 k l)

theorem project_at (acc : FVec Ideal S1024x768 .f32) (C : FVec Ideal S1024x512 .bf16) (W : FVec Ideal S768x1024 .bf16) (r : Fin 1024) (y : Fin 768) :
    k0_pay64 acc C (woOf W) (ix2 r y) = acc (ix2 r y) + ∑ l : Fin 512, C (ix2 r l) * W (ix2 y ⟨512 + l.val, by omega⟩) := by
  dsimp only [k0_pay64]
  refine (congrFun (shapeCast_self _ _) _).trans (congrArg (fun z : EReal => acc (ix2 r y) + z) ?_)
  refine (Ideal.matmul_transposedRhs_apply none C (shapeCast S768x512 (woOf W) shapeCasts_S1x768x512_S768x512) _ r y).trans ?_
  rw [const_zero, zero_add]
  exact Finset.sum_congr rfl fun l _ => congrArg (C (ix2 r l) * ·) (shapeCast_1ab_ab_apply (woOf W) shapeCasts_S1x768x512_S768x512 y l)

theorem bias_at (i j : Fin 512) : biasV (F := Ideal) (ix2 i j) = if Sees i.val j.val then (0 : EReal) else ⊥ := by
  have e : biasV (F := Ideal) (ix2 i j)
      = Scalar.select (IntOp.cmpi .eq (modK (floorK (iota .tc S512x512 32 [0] iota_S512x512_d0_w32 (ix2 i j))))
          (modK (floorK (iota .tc S512x512 32 [1] iota_S512x512_d1_w32 (ix2 i j)))))
        (Scalar.ofBits (F := Ideal) .f32 0x00000000#32) (Named.named (F := Ideal) κ "mask" 0xCE6E6B28#32) := rfl
  rw [e, iota_single_apply, iota_single_apply, IdealRules.named_const.ideal_named_scalar κ "mask" _ ⊥ rfl]
  show Scalar.select (IntOp.cmpi .eq (modK (floorK (BitVec.ofNat 32 i.val))) (modK (floorK (BitVec.ofNat 32 j.val)))) _ _ = _
  rw [maskK i j]
  by_cases h : Sees i.val j.val
  · rw [if_pos h, if_pos h]; exact (select_one _ _).trans Ideal.ofBits_zero_f32
  · rw [if_neg h, if_neg h]; exact select_zero _ _

/-- What slot `n` of device `c` adds to the accumulator. -/
def part (PK : Dev nD → FVec Ideal S768x1024 .bf16) (X : FVec Ideal S1024x768 .bf16) (K V : FVec Ideal S2x64x64x512 .bf16) (d : Dev nD) (r : Fin 1024) (y : Fin 768) : EReal :=
  ∑ l : Fin 512, ctxV biasV (k0_pay62 X (wqOf (PK d))) K V d (ix2 r l) * PK d (ix2 y ⟨512 + l.val, by omega⟩)

theorem accAt_at (PK : Dev nD → FVec Ideal S768x1024 .bf16) (X : FVec Ideal S1024x768 .bf16) (K V : FVec Ideal S2x64x64x512 .bf16) (c : Dev nD) (r : Fin 1024) (y : Fin 768) (n : ℕ) :
    accAt PK X K V c n (ix2 r y) = ∑ s ∈ Finset.range n, part PK X K V (srcDev (Fin.ofNat 8 s) c) r y := by
  induction n with
  | zero =>
    rw [Finset.range_zero, Finset.sum_empty]
    show k0_pay58 (F := Ideal) (ix2 r y) = _
    dsimp only [k0_pay58]
    exact (congrFun (shapeCast_self _ _) _).trans Ideal.ofBits_zero_f32
  | succ n ih => rw [Finset.sum_range_succ, ← ih]; exact project_at _ _ _ r y

theorem outV_at (PK : Dev nD → FVec Ideal S768x1024 .bf16) (X : FVec Ideal S1024x768 .bf16) (K V : FVec Ideal S2x64x64x512 .bf16) (c : Dev nD)
    (b : Fin 2) (i : Fin 512) (y : Fin 768) (r : Fin 1024) (hr : r.val = 512 * b.val + i.val) :
    outV (accAt PK X K V c 8) (ix3 b i y) = ∑ n : Fin 8, part PK X K V (srcDev n c) r y := by
  show k0_pay89 (half (accAt PK X K V c 8) b) (ix3 0 i y) = _
  dsimp only [k0_pay89]
  refine (shapeCast_ab_1ab_apply _ shapeCasts_S512x768_S1x512x768 0 i y).trans ?_
  have e : half (accAt PK X K V c 8) b (ix2 i y) = accAt PK X K V c 8 (ix2 r y) := by
    unfold half
    exact congrArg (fun z => accAt PK X K V c 8 (ix2 z y)) (Fin.ext (by show 512 * b.val + i.val = r.val; omega))
  refine e.trans ((accAt_at PK X K V c r y 8).trans ?_)
  rw [Finset.sum_range]
  exact Finset.sum_congr rfl fun n _ => congrArg (fun z => part PK X K V (srcDev z c) r y) (Fin.ext (Nat.mod_eq_of_lt n.isLt))

end Cert.Value

end
-- ==== Proof.Value.Ref.lean ====
/-
The reference's stages read at an index, over the extended reals, down to its arguments.
-/
module

public import proofs.«01_k».proof.Proof.Gen.ReferenceIdeal.Read
public import proofs.«01_k».proof.Proof.Value.Mask
public import proofs.«01_k».proof.Proof.Value.Math
public import Idealize.ShloMosaic.PureOps.Reduce

@[expose] public section

noncomputable section

namespace Cert.Value.Ref

open Cert.ReferenceIdeal Cert.ReferenceIdeal.Gen Cert.ReferenceIdeal.Read
open Idealize.ShloMosaic
open Idealize.ShloMosaic.ValueIdx

abbrev X0 := (⟨S2x4096x768, .bf16⟩ : BufTy).Contents (Elt Ideal)
abbrev X1 := (⟨S768x4096, .bf16⟩ : BufTy).Contents (Elt Ideal)
abbrev X2 := (⟨S2x512x64x64, .bf16⟩ : BufTy).Contents (Elt Ideal)
abbrev X4 := (⟨S4096x768, .bf16⟩ : BufTy).Contents (Elt Ideal)

/-- The unscaled, unmasked score. -/
def dots (x0 : X0) (x1 : X1) (x2 : X2) (b : Fin 2) (h : Fin 64) (i : Fin 4096) (j : Fin 512) : EReal :=
  ∑ e : Fin 64, (∑ k : Fin 768, x0 (ix3 b i k) * x1 (ix2 k ⟨64 * h.val + e.val, by omega⟩)) * x2 (ix4 b j h e)

/-- The masked row. -/
def row (x0 : X0) (x1 : X1) (x2 : X2) (b : Fin 2) (h : Fin 64) (i : Fin 4096) (j : Fin 512) : EReal :=
  if Sees i.val j.val then dots x0 x1 x2 b h i j * ((1 / 8 : ℝ) : EReal) else ⊥

/-- Its maximum. -/
def top (x0 : X0) (x1 : X1) (x2 : X2) (b : Fin 2) (h : Fin 64) (i : Fin 4096) : EReal :=
  (Finset.univ : Finset (Fin 512)).fold max ⊥ (row x0 x1 x2 b h i)

theorem scaled_idx (b : Fin 2) (h : Fin 64) (i : Fin 4096) (e : Fin 64) : idx_main_v6 (ix4 b i h e) = ix3 b i ⟨64 * h.val + e.val, by omega⟩ :=
  funext fun a => Fin.ext (by
    have hb := b.isLt
    have hi := i.isLt
    have hh := h.isLt
    have he := e.isLt
    match a with
    | ⟨0, _⟩ => show (((b.val * 4096 + i.val) * 64 + h.val) * 64 + e.val) / 16777216 = b.val; omega
    | ⟨1, _⟩ => show (((b.val * 4096 + i.val) * 64 + h.val) * 64 + e.val) / 4096 % 4096 = i.val; omega
    | ⟨2, _⟩ => show (((b.val * 4096 + i.val) * 64 + h.val) * 64 + e.val) % 4096 = 64 * h.val + e.val; omega)

theorem v5_at (x0 : X0) (x1 : X1) (b : Fin 2) (i : Fin 4096) (n : Fin 4096) :
    val_main_v5 x0 x1 (ix3 b i n) = ∑ k : Fin 768, x0 (ix3 b i k) * x1 (ix2 k n) := by
  rw [val_main_v5_apply]
  refine Finset.sum_congr rfl fun k _ => congrArg₂ (fun p q : EReal => p * q) (congrArg x0 (funext fun a => ?_)) (congrArg x1 (funext fun a => ?_))
  · match a with
    | ⟨0, _⟩ => rfl
    | ⟨1, _⟩ => rfl
    | ⟨2, _⟩ => rfl
  · match a with
    | ⟨0, _⟩ => rfl
    | ⟨1, _⟩ => rfl

theorem v22_at (x0 : X0) (x1 : X1) (x2 : X2) (b : Fin 2) (h : Fin 64) (i : Fin 4096) (j : Fin 512) :
    val_main_v22 x0 x1 x2 (ix4 b h i j) = dots x0 x1 x2 b h i j := by
  rw [val_main_v22_apply]
  unfold dots
  refine Finset.sum_congr rfl fun e _ => congrArg₂ (fun p q : EReal => p * q) ?_ (congrArg x2 (funext fun a => ?_))
  · have e1 : lidx_main_v22 (ix4 b h i j) e = ix4 b i h e := funext fun a => by
      match a with
      | ⟨0, _⟩ => rfl
      | ⟨1, _⟩ => rfl
      | ⟨2, _⟩ => rfl
      | ⟨3, _⟩ => rfl
    rw [e1, val_main_v6_apply, scaled_idx, v5_at]
  · match a with
    | ⟨0, _⟩ => rfl
    | ⟨1, _⟩ => rfl
    | ⟨2, _⟩ => rfl
    | ⟨3, _⟩ => rfl

theorem v8_at (i : S4096.Idx) : val_main_v8 (F := Ideal) i = floorH (BitVec.ofNat 32 (i 0).val) := rfl
theorem v11_at (i : S512.Idx) : val_main_v11 (F := Ideal) i = floorH (BitVec.ofNat 32 (i 0).val) := rfl
theorem v16_at (i : S1x512.Idx) : val_main_v16 (F := Ideal) i = modH (val_main_v12 (F := Ideal) i) := rfl
theorem v17_at (i : S4096x1.Idx) : val_main_v17 (F := Ideal) i = modH (val_main_v9 (F := Ideal) i) := rfl

theorem v21_at (i : Fin 4096) (j : Fin 512) : val_main_v21 (F := Ideal) (ix2 i j) = if Sees i.val j.val then 1#1 else 0#1 := by
  rw [val_main_v21_apply, val_main_v15_apply, val_main_v20_apply, val_main_v13_apply, val_main_v14_apply, val_main_v18_apply, val_main_v19_apply,
    v16_at, v17_at, val_main_v9_apply, val_main_v12_apply, v8_at, v11_at]
  exact maskH i j

theorem v26_at (x0 : X0) (x1 : X1) (x2 : X2) (b : Fin 2) (h : Fin 64) (i : Fin 4096) (j : Fin 512) :
    val_main_v26 x0 x1 x2 (ix4 b h i j) = row x0 x1 x2 b h i j := by
  have e1 : idx_main_v25 (idx_main_call4_v1 (ix4 b h i j)) = ix2 i j := funext fun a => by
    match a with
    | ⟨0, _⟩ => rfl
    | ⟨1, _⟩ => rfl
  rw [val_main_v26_apply, val_main_call4_v1_apply, val_main_v25_apply, e1, v21_at, val_main_v24_apply, v22_at, val_main_v23_apply, val_main_call4_v2_apply]
  unfold row
  by_cases hs : Sees i.val j.val
  · rw [if_pos hs, if_pos hs]
    exact (select_one _ _).trans (congrArg (fun z : EReal => dots x0 x1 x2 b h i j * z) eighth_f32)
  · rw [if_neg hs, if_neg hs]
    exact (select_zero _ _).trans ninf_f32

theorem v27_at (x0 : X0) (x1 : X1) (x2 : X2) (b : Fin 2) (h : Fin 64) (i : Fin 4096) : val_main_v27 x0 x1 x2 (ix3 b h i) = top x0 x1 x2 b h i := by
  unfold val_main_v27 top
  refine (Host.reduce_eq_fold_single (max : EReal → EReal → EReal) (val_main_v26 x0 x1 x2) (val_main_cst_4 (F := Ideal)) reducesTo_S2x64x4096x512_S2x64x4096_d3 (by decide) h_S_ (ix3 b h i)).trans ?_
  rw [show val_main_cst_4 (F := Ideal) (Shape.Idx.first h_S_) = (⊥ : EReal) from ninf_f32]
  refine congrArg (Finset.fold max ⊥ · Finset.univ) (funext fun (j : Fin 512) => (congrArg (val_main_v26 x0 x1 x2) (funext fun a => ?_)).trans (v26_at x0 x1 x2 b h i j))
  match a with
  | ⟨0, _⟩ => rfl
  | ⟨1, _⟩ => rfl
  | ⟨2, _⟩ => rfl
  | ⟨3, _⟩ => rfl

theorem v31_at (x0 : X0) (x1 : X1) (x2 : X2) (b : Fin 2) (h : Fin 64) (i : Fin 4096) (j : Fin 512) :
    val_main_v31 x0 x1 x2 (ix4 b h i j) = Ideal.exp (row x0 x1 x2 b h i j - top x0 x1 x2 b h i) := by
  have e1 : idx_main_v28 (idx_main_v29 (ix4 b h i j)) = ix3 b h i := funext fun a => by
    match a with
    | ⟨0, _⟩ => rfl
    | ⟨1, _⟩ => rfl
    | ⟨2, _⟩ => rfl
  rw [val_main_v31_apply, val_main_v30_apply, v26_at, val_main_v29_apply, val_main_v28_apply, e1, v27_at]
  rfl

theorem v34_at (x0 : X0) (x1 : X1) (x2 : X2) (b : Fin 2) (h : Fin 64) (i : Fin 4096) :
    val_main_v34 x0 x1 x2 (ix3 b h i) = ∑ k : Fin 512, Ideal.exp (row x0 x1 x2 b h i k - top x0 x1 x2 b h i) := by
  rw [val_main_v34_apply, show val_main_cst_6 (F := Ideal) (Shape.Idx.first h_S_) = (0 : EReal) from Ideal.ofBits_zero_f32, zero_add]
  refine Finset.sum_congr rfl fun k _ => (congrArg (val_main_v31 x0 x1 x2) (funext fun a => ?_)).trans (v31_at x0 x1 x2 b h i k)
  match a with
  | ⟨0, _⟩ => rfl
  | ⟨1, _⟩ => rfl
  | ⟨2, _⟩ => rfl
  | ⟨3, _⟩ => rfl

theorem or_rel (x y z : BitVec 1) : (x = 1#1 → IntOp.ori y z = 1#1) ↔ (x = 1#1 → y = 1#1) ∨ (x = 1#1 → z = 1#1) := by
  revert x y z; decide

/-- Every row keeps a column. -/
theorem v32_at (i : S4096.Idx) : val_main_v32 (F := Ideal) i = 1#1 := by
  unfold val_main_v32
  rw [Host.reduce_eq_fold_single IntOp.ori (val_main_v21 (F := Ideal)) (val_main_c_5 (F := Ideal)) reducesTo_S4096x512_S4096_d1 (by decide) h_S_ i]
  refine (Finset.fold_op_rel_iff_or (r := fun x y : BitVec 1 => x = 1#1 → y = 1#1) (fun {x y z} => or_rel x y z)).mpr (.inr ?_) rfl
  obtain ⟨j, hj⟩ := sees_some (i 0).val
  refine ⟨j, Finset.mem_univ _, fun _ => ?_⟩
  refine (congrArg (val_main_v21 (F := Ideal)) (funext fun a => ?_)).trans ((v21_at (i 0) j).trans (if_pos hj))
  match a with
  | ⟨0, _⟩ => rfl
  | ⟨1, _⟩ => rfl

theorem v40_at (x0 : X0) (x1 : X1) (x2 : X2) (b : Fin 2) (h : Fin 64) (i : Fin 4096) (j : Fin 512) :
    val_main_v40 x0 x1 x2 (ix4 b h i j)
      = Ideal.div (Ideal.exp (row x0 x1 x2 b h i j - top x0 x1 x2 b h i)) (∑ k : Fin 512, Ideal.exp (row x0 x1 x2 b h i k - top x0 x1 x2 b h i)) := by
  have e1 : idx_main_v35 (idx_main_v37 (ix4 b h i j)) = ix3 b h i := funext fun a => by
    match a with
    | ⟨0, _⟩ => rfl
    | ⟨1, _⟩ => rfl
    | ⟨2, _⟩ => rfl
  rw [val_main_v40_apply, val_main_call6_v1_apply, val_main_v39_apply, v32_at, select_one, val_main_v38_apply, v31_at, val_main_v37_apply, val_main_v36_apply,
    val_main_call5_v1_apply, val_main_v33_apply, v32_at, select_one, val_main_v35_apply, e1, v34_at]
  rfl

theorem v43_at (x0 : X0) (x1 : X1) (x2 x3 : X2) (b : Fin 2) (i n : Fin 4096) :
    val_main_v43 x0 x1 x2 x3 (ix3 b i n)
      = ∑ j : Fin 512, x3 (ix4 b j ⟨n.val / 64, by omega⟩ ⟨n.val % 64, by omega⟩) * val_main_v40 x0 x1 x2 (ix4 b ⟨n.val / 64, by omega⟩ i j) := by
  have e1 : idx_main_v42 (idx_main_v43 (ix3 b i n)) = ix4 b ⟨n.val / 64, by omega⟩ ⟨n.val % 64, by omega⟩ i := funext fun a => Fin.ext (by
    have hb := b.isLt
    have hi := i.isLt
    have hn := n.isLt
    match a with
    | ⟨0, _⟩ => show ((b.val * 4096 + i.val) * 4096 + n.val) / 16777216 = b.val; omega
    | ⟨1, _⟩ => show ((b.val * 4096 + i.val) * 4096 + n.val) / 64 % 64 = n.val / 64; omega
    | ⟨2, _⟩ => show ((b.val * 4096 + i.val) * 4096 + n.val) % 64 = n.val % 64; omega
    | ⟨3, _⟩ => show ((b.val * 4096 + i.val) * 4096 + n.val) / 4096 % 4096 = i.val; omega)
  rw [val_main_v43_apply, val_main_v42_apply, e1, val_main_v41_apply]
  refine Finset.sum_congr rfl fun j _ => congrArg₂ (fun p q : EReal => p * q) (congrArg x3 (funext fun a => ?_)) (congrArg (val_main_v40 x0 x1 x2) (funext fun a => ?_))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl
    | ⟨3, _⟩ => rfl

/-- One row of one head as the reference takes it. -/
def ctx (x0 : X0) (x1 : X1) (x2 x3 : X2) (b : Fin 2) (i n : Fin 4096) : EReal :=
  ∑ j : Fin 512, x3 (ix4 b j ⟨n.val / 64, by omega⟩ ⟨n.val % 64, by omega⟩)
    * Ideal.div (Ideal.exp (row x0 x1 x2 b ⟨n.val / 64, by omega⟩ i j - top x0 x1 x2 b ⟨n.val / 64, by omega⟩ i))
        (∑ k : Fin 512, Ideal.exp (row x0 x1 x2 b ⟨n.val / 64, by omega⟩ i k - top x0 x1 x2 b ⟨n.val / 64, by omega⟩ i))

theorem v45_at (x0 : X0) (x1 : X1) (x2 x3 : X2) (x4 : X4) (b : Fin 2) (i : Fin 4096) (y : Fin 768) :
    val_main_v45 x0 x1 x2 x3 x4 (ix3 b i y) = ∑ n : Fin 4096, ctx x0 x1 x2 x3 b i n * x4 (ix2 n y) := by
  refine (val_main_v44_apply x0 x1 x2 x3 x4 (ix3 b i y)).trans ?_
  refine Finset.sum_congr rfl fun n _ => congrArg₂ (fun p q : EReal => p * q) ?_ (congrArg x4 (funext fun a => ?_))
  · have e1 : lidx_main_v44 (ix3 b i y) n = ix3 b i n := funext fun a => by
      match a with
      | ⟨0, _⟩ => rfl
      | ⟨1, _⟩ => rfl
      | ⟨2, _⟩ => rfl
    rw [e1, v43_at]
    unfold ctx
    exact Finset.sum_congr rfl fun j _ => congrArg _ (v40_at x0 x1 x2 b _ i j)
  · match a with
    | ⟨0, _⟩ => rfl
    | ⟨1, _⟩ => rfl

end Cert.Value.Ref

end
-- ==== Proof.Value.Join.lean ====
/-
The kernel's result on a device is that device's block of the reference's, where the scores are finite.
-/
module

public import proofs.«01_k».proof.Proof.Value.Entry
public import proofs.«01_k».proof.Proof.Value.Ker
public import proofs.«01_k».proof.Proof.Value.Ref

@[expose] public section

noncomputable section

namespace Cert.Value

open Idealize.ShloMosaic Idealize.ShloMosaic.TcCoe
open Idealize.ShloMosaic.ValueIdx

/-- One row of one head: the kernel's attention is the reference's. -/
theorem head_eq (g0 : Ref.X0) (g1 : Ref.X1) (g2 g3 : Ref.X2) (xr : Fin 2 → Fin 4096 → Fin 768 → ℝ) (wr : Fin 768 → Fin 4096 → ℝ)
    (kr : Fin 2 → Fin 512 → Fin 64 → Fin 64 → ℝ) (hx : ∀ b i k, g0 (ix3 b i k) = (xr b i k : EReal)) (hw : ∀ k n, g1 (ix2 k n) = (wr k n : EReal))
    (hk : ∀ b j h e, g2 (ix4 b j h e) = (kr b j h e : EReal)) (b : Fin 2) (i n : Fin 4096) :
    attn (fun e => ∑ k : Fin 768, g0 (ix3 b i k) * (g1 (ix2 k ⟨64 * (n.val / 64) + e.val, by omega⟩) * (((1 : ℝ) / 8 : ℝ) : EReal)))
      (fun e j => g2 (ix4 b j ⟨n.val / 64, by omega⟩ e)) (fun j => g3 (ix4 b j ⟨n.val / 64, by omega⟩ ⟨n.val % 64, by omega⟩))
      (fun j => if Sees i.val j.val then 0 else ⊥) = Ref.ctx g0 g1 g2 g3 b i n := by
  have e2 : ∀ j : Fin 512, Ref.row g0 g1 g2 b ⟨n.val / 64, by omega⟩ i j
      = if Sees i.val j.val then (((∑ d : Fin 64, (∑ k : Fin 768, xr b i k * wr k ⟨64 * (n.val / 64) + d.val, by omega⟩) * kr b j ⟨n.val / 64, by omega⟩ d) * (1 / 8) : ℝ) : EReal) else ⊥ := fun j => by
    unfold Ref.row Ref.dots
    simp only [hx, hw, hk]
    rw [(scores (fun k => xr b i k) (fun k d => wr k ⟨64 * (n.val / 64) + d.val, by omega⟩) (fun d => kr b j ⟨n.val / 64, by omega⟩ d) (1 / 8)).2]
  have e1 : ∀ j : Fin 512, (∑ e : Fin 64, (∑ k : Fin 768, g0 (ix3 b i k) * (g1 (ix2 k ⟨64 * (n.val / 64) + e.val, by omega⟩) * (((1 : ℝ) / 8 : ℝ) : EReal))) * g2 (ix4 b j ⟨n.val / 64, by omega⟩ e))
      = (((∑ d : Fin 64, (∑ k : Fin 768, xr b i k * wr k ⟨64 * (n.val / 64) + d.val, by omega⟩) * kr b j ⟨n.val / 64, by omega⟩ d) * (1 / 8) : ℝ) : EReal) := fun j => by
    simp only [hx, hw, hk]
    exact (scores (fun k => xr b i k) (fun k d => wr k ⟨64 * (n.val / 64) + d.val, by omega⟩) (fun d => kr b j ⟨n.val / 64, by omega⟩ d) (1 / 8)).1
  obtain ⟨M, hM⟩ := max_real (fun j : Fin 512 => (∑ d : Fin 64, (∑ k : Fin 768, xr b i k * wr k ⟨64 * (n.val / 64) + d.val, by omega⟩) * kr b j ⟨n.val / 64, by omega⟩ d) * (1 / 8))
    (fun j => Sees i.val j.val) (sees_some i.val)
  have e3 : Ref.top g0 g1 g2 b ⟨n.val / 64, by omega⟩ i = (M : EReal) := by
    rw [← hM]; unfold Ref.top
    exact congrArg (Finset.fold max ⊥ · Finset.univ) (funext e2)
  unfold attn Ref.ctx
  simp only [e1, e2, e3]
  exact softmax _ (fun j : Fin 512 => Sees i.val j.val) (sees_some i.val) M _

theorem attn_congr {q q' : Fin 64 → EReal} {K K' : Fin 64 → Fin 512 → EReal} {v v' bias bias' : Fin 512 → EReal} (hq : ∀ e, q e = q' e)
    (hK : ∀ e j, K e j = K' e j) (hv : ∀ j, v j = v' j) (hb : ∀ j, bias j = bias' j) : attn q K v bias = attn q' K' v' bias' := by
  rw [funext hq, funext fun e => funext (hK e), funext hv, funext hb]

open Cert.KernelIdeal Cert.KernelIdeal.Talk

/-- Where entry `i` of block `c` is in the whole. -/
def place (c : Dev nD) (i : Fin 512) : Fin 4096 := ⟨512 * c.val + i.val, by have h : c.val < 8 := c.isLt; omega⟩

theorem sources (c : Dev nD) : Function.Bijective (fun n : Fin 8 => (srcDev n c : Fin 8)) := by
  revert c; decide

section

variable (m : (ℓ : Loc nD τ sig) → Buf (Elt Ideal) ℓ) (g0 : Ref.X0) (g1 : Ref.X1) (g2 g3 : Ref.X2) (g4 : Ref.X4)
  (h0 : ∀ (c : Dev nD) (b : Fin 2) (i : Fin 512) (k : Fin 768), a0 m c (ix3 b i k) = g0 (ix3 b (place c i) k))
  (h1 : ∀ (c : Dev nD) (k : Fin 768) (l : Fin 512), a1 m c (ix2 k l) = g1 (ix2 k (place c l)))
  (h2 : ∀ c : Dev nD, a2 m c = g2) (h3 : ∀ c : Dev nD, a3 m c = g3)
  (h4 : ∀ (c : Dev nD) (l : Fin 512) (y : Fin 768), a4 m c (ix2 l y) = g4 (ix2 (place c l) y))
  (xr : Fin 2 → Fin 4096 → Fin 768 → ℝ) (wr : Fin 768 → Fin 4096 → ℝ)
  (kr : Fin 2 → Fin 512 → Fin 64 → Fin 64 → ℝ) (hx : ∀ b i k, g0 (ix3 b i k) = (xr b i k : EReal)) (hw : ∀ k n, g1 (ix2 k n) = (wr k n : EReal))
  (hk : ∀ b j h e, g2 (ix4 b j h e) = (kr b j h e : EReal))

include h0 h1 h2 h3 h4 hx hw hk

theorem part_eq (c d : Dev nD) (b : Fin 2) (i : Fin 512) (y : Fin 768) (r : Fin 1024) (hr : r.val = 512 * b.val + i.val) :
    part (packOf m) (xOf m c) (keysOf m c) (valsOf m c) d r y
      = ∑ l : Fin 512, Ref.ctx g0 g1 g2 g3 b (place c i) (place d l)
          * g4 (ix2 (place d l) y) := by
  have hc : c.val < 8 := c.isLt
  have hd : d.val < 8 := d.isLt
  unfold part
  refine Finset.sum_congr rfl fun l _ => ?_
  have hl := l.isLt
  have eh : (⟨8 * d.val + l.val / 64, by omega⟩ : Fin 64) = ⟨(512 * d.val + l.val) / 64, by omega⟩ := Fin.ext (by show 8 * d.val + l.val / 64 = (512 * d.val + l.val) / 64; omega)
  have em : (⟨l.val % 64, by omega⟩ : Fin 64) = ⟨(512 * d.val + l.val) % 64, by omega⟩ := Fin.ext (by show l.val % 64 = (512 * d.val + l.val) % 64; omega)
  refine congrArg₂ (fun p q : EReal => p * q) ?_ ((packOf_out m d y l).trans (h4 d l y))
  refine (ctxV_val biasV _ (keysOf m c) (valsOf m c) d b i l r hr ⟨8 * d.val + l.val / 64, by omega⟩ rfl).trans
    ((attn_congr (fun e => ?_) (fun e j => ?_) (fun j => ?_) (fun j => ?_)).trans
      (head_eq g0 g1 g2 g3 xr wr kr hx hw hk b (place c i) (place d l)))
  · have he := e.isLt
    refine (queries_at (xOf m c) (packOf m d) r ⟨64 * (l.val / 64) + e.val, by omega⟩).trans (Finset.sum_congr rfl fun k _ => ?_)
    refine congrArg₂ (fun p q : EReal => p * q) ((xOf_at m c b i k r hr).trans (h0 c b i k)) ?_
    refine (packOf_query m d k ⟨64 * (l.val / 64) + e.val, by omega⟩).trans ?_
    refine congrArg (fun p : EReal => p * (((1 : ℝ) / 8 : ℝ) : EReal)) ((h1 d k ⟨64 * (l.val / 64) + e.val, by omega⟩).trans ?_)
    refine congrArg (fun z => g1 (ix2 k z)) (Fin.ext ?_)
    show 512 * d.val + (64 * (l.val / 64) + e.val) = 64 * ((512 * d.val + l.val) / 64) + e.val
    omega
  · exact (keysOf_at m c b _ e j).trans ((congrFun (h2 c) _).trans (congrArg (fun z => g2 (ix4 b j z e)) eh))
  · exact (valsOf_at m c b _ _ j).trans ((congrFun (h3 c) _).trans (congrArg₂ (fun z w => g3 (ix4 b j z w)) eh em))
  · exact (bias_at i j).trans (if_congr (sees_shift c.val i.val j.val).symm rfl rfl)

/-- The result of device `c`, read at an index. -/
theorem result_at (c : Dev nD) (b : Fin 2) (i : Fin 512) (y : Fin 768) :
    resOf m c (ix3 b i y) = Cert.ReferenceIdeal.Read.val_main_v45 g0 g1 g2 g3 g4 (ix3 b (place c i) y) := by
  have hc : c.val < 8 := c.isLt
  rw [Ref.v45_at]
  unfold resOf
  refine (outV_at (packOf m) (xOf m c) (keysOf m c) (valsOf m c) c b i y ⟨512 * b.val + i.val, by omega⟩ rfl).trans ?_
  refine (Finset.sum_congr rfl fun n _ => part_eq m g0 g1 g2 g3 g4 h0 h1 h2 h3 h4 xr wr kr hx hw hk c (srcDev n c) b i y _ rfl).trans ?_
  exact sum_blocks (fun n => Ref.ctx g0 g1 g2 g3 b (place c i) n * g4 (ix2 n y)) (fun n => srcDev n c) (sources c)

end

end Cert.Value

end
-- ==== Proof.Value.Finite.lean ====
/-
What the precondition says of one device's arguments: every activation, query weight and key is a real.
-/
module

public import proofs.«01_k».proof.Pre_finite_KernelIdeal
public import proofs.«01_k».proof.Proof.Gen.Pre_finite_KernelIdeal
public import proofs.«01_k».proof.Proof.Value.Math
public import Idealize.ShloMosaic.Lib.ReduceAll

@[expose] public section

noncomputable section

namespace Cert.Value

open Cert.Pre_finite_KernelIdeal Cert.Pre_finite_KernelIdeal.Gen
open Idealize.ShloMosaic

instance : Subsingleton S_.Idx := ⟨fun _ _ => funext fun a => a.elim0⟩

theorem real_of_test (x : EReal) (h : Ideal.cmp .olt (max x (-x)) (Ideal.ofBits .bf16 0x7F80#16) = 1#1) : ∃ r : ℝ, x = (r : EReal) :=
  real_of_lt x (inf_bf16 ▸ h)

theorem finite_args (x0 : FVec Ideal S2x512x768 .bf16) (x1 : FVec Ideal S768x512 .bf16) (x2 x3 : FVec Ideal S2x512x64x64 .bf16) (x4 : FVec Ideal S512x768 .bf16)
    (h : fn (F := Ideal) x0 x1 x2 x3 x4 = fun _ => 1#1) :
    (∀ i, ∃ r : ℝ, x0 i = (r : EReal)) ∧ (∀ i, ∃ r : ℝ, x1 i = (r : EReal)) ∧ ∀ i, ∃ r : ℝ, x2 i = (r : EReal) := by
  have e := congrFun h (fun a => a.elim0)
  dsimp only [fn] at e
  obtain ⟨e, e2⟩ := IntOp.andi_eq_one.1 e
  obtain ⟨e0, e1⟩ := IntOp.andi_eq_one.1 e
  exact ⟨fun i => real_of_test _ (Host.reduce_andi_all _ _ _ _ _ e0 i), fun i => real_of_test _ (Host.reduce_andi_all _ _ _ _ _ e1 i),
    fun i => real_of_test _ (Host.reduce_andi_all _ _ _ _ _ e2 i)⟩

end Cert.Value

end
-- ==== Proof.lean ====
/- The claims of the certificate, put together from the two runs of the kernel (`Proof/Kernel`, `Proof/KernelIdeal`) and the
   reference's. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_KernelIdeal
public import proofs.«01_k».proof.Proof.Gen.Pre_finite_ReferenceIdeal
public import proofs.«01_k».proof.Proof.Gen.ReferenceIdeal.Run
public import proofs.«01_k».proof.Proof.Gen.ReferenceIdeal.Read
public import proofs.«01_k».proof.Proof.Kernel.Run
public import proofs.«01_k».proof.Proof.KernelIdeal.Run
public import proofs.«01_k».proof.Proof.Value.Join
public import proofs.«01_k».proof.Proof.Value.Finite
public import Idealize.ShloMosaic.Adequacy
public import Idealize.ShloMosaic.Init

@[expose] public section

noncomputable section

namespace Cert.Proof

open Idealize.ShloMosaic Idealize.SL.Sem
open Idealize.ShloMosaic.ValueIdx

/-- The kernel's run at the words: the arguments kept, the counters at zero. -/
theorem frame_k : Cert.quiescent_Kernel := fun m ρ _ =>
  (θ_run _ _ _).mono (fun _ h => ⟨fun c => ⟨(h.1 c).1, (h.1 c).2.1, (h.1 c).2.2.1, (h.1 c).2.2.2.1, (h.1 c).2.2.2.2.1⟩, h.2⟩) (Cert.Kernel.Talk.run_main m ρ)

/-- The same of its idealization. -/
theorem frame_ki : Cert.quiescent_KernelIdeal := fun m ρ _ =>
  (θ_run _ _ _).mono (fun _ h => ⟨fun c => ⟨(h.1 c).1, (h.1 c).2.1, (h.1 c).2.2.1, (h.1 c).2.2.2.1, (h.1 c).2.2.2.2.1⟩, h.2⟩) (Cert.KernelIdeal.Talk.run_main m ρ)

/-- The reference declares no semaphore. -/
theorem frame_ri : Cert.quiescent_ReferenceIdeal := fun m ρ _ =>
  (θ_run _ _ _).mono (fun r h => ⟨fun c => (h c).2, sem_eq_zero_of_no_sems (by decide) r.2⟩) (Cert.ReferenceIdeal.Value.run m ρ)

/-- The one named constant: the mask's fill value. -/
theorem mask_ok : Cert.preserves_Kernel_KernelIdeal :=
  IdealRules.named_const.statement Cert.KernelIdeal.κ "mask" .f32 0xCE6E6B28#32 ⊥ rfl

theorem frame_ki_pre : Cert.quiescent_KernelIdeal_pre_finite_KernelIdeal := fun m ρ _ =>
  (θ_run _ _ _).mono (fun _ h => ⟨fun c => ⟨(h.1 c).1, (h.1 c).2.1, (h.1 c).2.2.1, (h.1 c).2.2.2.1, (h.1 c).2.2.2.2.1⟩, h.2⟩) (Cert.KernelIdeal.Talk.run_main m ρ)

theorem frame_ri_pre : Cert.quiescent_ReferenceIdeal_pre_finite_ReferenceIdeal := fun m ρ _ =>
  (θ_run _ _ _).mono (fun r h => ⟨fun c => (h c).2, sem_eq_zero_of_no_sems (by decide) r.2⟩) (Cert.ReferenceIdeal.Value.run m ρ)

open Cert.Value in
/-- The kernel computes the reference, device by device. -/
theorem value_ok : Cert.algebraic_KernelIdeal_ReferenceIdeal_pre_finite_KernelIdeal := by
  intro m g m' g' hp hm
  have f0 := fun c => (finite_args _ _ _ _ _ (hp c)).1
  have f1 := fun c => (finite_args _ _ _ _ _ (hp c)).2.1
  have f2 := fun c => (finite_args _ _ _ _ _ (hp c)).2.2
  let g0 : Ref.X0 := m' (((0 : Dev Cert.ReferenceIdeal.nD).tc : Thread Cert.ReferenceIdeal.nD Cert.ReferenceIdeal.τ).loc Cert.ReferenceIdeal.main_arg0)
  let g1 : Ref.X1 := m' (((0 : Dev Cert.ReferenceIdeal.nD).tc : Thread Cert.ReferenceIdeal.nD Cert.ReferenceIdeal.τ).loc Cert.ReferenceIdeal.main_arg1)
  let g2 : Ref.X2 := m' (((0 : Dev Cert.ReferenceIdeal.nD).tc : Thread Cert.ReferenceIdeal.nD Cert.ReferenceIdeal.τ).loc Cert.ReferenceIdeal.main_arg2)
  let g3 : Ref.X2 := m' (((0 : Dev Cert.ReferenceIdeal.nD).tc : Thread Cert.ReferenceIdeal.nD Cert.ReferenceIdeal.τ).loc Cert.ReferenceIdeal.main_arg3)
  let g4 : Ref.X4 := m' (((0 : Dev Cert.ReferenceIdeal.nD).tc : Thread Cert.ReferenceIdeal.nD Cert.ReferenceIdeal.τ).loc Cert.ReferenceIdeal.main_arg4)
  have h0 : ∀ (c : Dev Cert.KernelIdeal.nD) (b : Fin 2) (i : Fin 512) (k : Fin 768), a0 m c (ix3 b i k) = g0 (ix3 b (place c i) k) := fun c b i k =>
    (congrFun (hm c).1 _).trans (congrArg g0 (funext fun a => Fin.ext (by
      match a with
      | ⟨0, _⟩ => rfl
      | ⟨1, _⟩ => show c.val * 512 + i.val = 512 * c.val + i.val; omega
      | ⟨2, _⟩ => rfl)))
  have h1 : ∀ (c : Dev Cert.KernelIdeal.nD) (k : Fin 768) (l : Fin 512), a1 m c (ix2 k l) = g1 (ix2 k (place c l)) := fun c k l =>
    (congrFun (hm c).2.1 _).trans (congrArg g1 (funext fun a => Fin.ext (by
      match a with
      | ⟨0, _⟩ => rfl
      | ⟨1, _⟩ => show c.val * 512 + l.val = 512 * c.val + l.val; omega)))
  have h2 : ∀ c : Dev Cert.KernelIdeal.nD, a2 m c = g2 := fun c => (hm c).2.2.1
  have h3 : ∀ c : Dev Cert.KernelIdeal.nD, a3 m c = g3 := fun c => (hm c).2.2.2.1
  have h4 : ∀ (c : Dev Cert.KernelIdeal.nD) (l : Fin 512) (y : Fin 768), a4 m c (ix2 l y) = g4 (ix2 (place c l) y) := fun c l y =>
    (congrFun (hm c).2.2.2.2 _).trans (congrArg g4 (funext fun a => Fin.ext (by
      match a with
      | ⟨0, _⟩ => show c.val * 512 + l.val = 512 * c.val + l.val; omega
      | ⟨1, _⟩ => rfl)))
  have rx : ∀ (b : Fin 2) (i : Fin 4096) (k : Fin 768), ∃ r : ℝ, g0 (ix3 b i k) = (r : EReal) := fun b i k => by
    obtain ⟨r, hr⟩ := f0 ⟨i.val / 512, by show i.val / 512 < 8; omega⟩ (ix3 b ⟨i.val % 512, by omega⟩ k)
    refine ⟨r, Eq.trans (congrArg (fun z => g0 (ix3 b z k)) (Fin.ext ?_)) ((h0 ⟨i.val / 512, by show i.val / 512 < 8; omega⟩ b ⟨i.val % 512, by omega⟩ k).symm.trans hr)⟩
    show i.val = 512 * (i.val / 512) + i.val % 512
    omega
  have rw' : ∀ (k : Fin 768) (n : Fin 4096), ∃ r : ℝ, g1 (ix2 k n) = (r : EReal) := fun k n => by
    obtain ⟨r, hr⟩ := f1 ⟨n.val / 512, by show n.val / 512 < 8; omega⟩ (ix2 k ⟨n.val % 512, by omega⟩)
    refine ⟨r, Eq.trans (congrArg (fun z => g1 (ix2 k z)) (Fin.ext ?_)) ((h1 ⟨n.val / 512, by show n.val / 512 < 8; omega⟩ k ⟨n.val % 512, by omega⟩).symm.trans hr)⟩
    show n.val = 512 * (n.val / 512) + n.val % 512
    omega
  have rk : ∀ (b : Fin 2) (j : Fin 512) (h e : Fin 64), ∃ r : ℝ, g2 (ix4 b j h e) = (r : EReal) := fun b j h e => by
    obtain ⟨r, hr⟩ := f2 0 (ix4 b j h e)
    exact ⟨r, (congrFun (h2 0) _).symm.trans hr⟩
  choose xr hx using rx
  choose wr hw using rw'
  choose kr hk using rk
  refine ⟨Cert.ReferenceIdeal.Value.res_main_v45 m' 0, (θ_run _ _ _).mono (fun r h c => ?_) (Cert.KernelIdeal.Talk.run_main m g),
    (θ_run _ _ _).mono (fun r h => h 0) (Cert.ReferenceIdeal.Value.run m' g')⟩
  obtain ⟨k0, k1, k2, k3, k4, k8⟩ := h.1 c
  refine ⟨k8.trans ?_, k0, k1, k2, k3, k4⟩
  rw [Cert.ReferenceIdeal.Read.val_main_v45_eq]
  refine funext fun (i : Cert.KernelIdeal.S2x512x768.Idx) => ?_
  have ei : i = ix3 (i 0) (i 1) (i 2) := funext fun a => by
    match a with
    | ⟨0, _⟩ => rfl
    | ⟨1, _⟩ => rfl
    | ⟨2, _⟩ => rfl
  rw [ei]
  refine (result_at m g0 g1 g2 g3 g4 h0 h1 h2 h3 h4 xr wr kr hx hw hk c (i 0) (i 1) (i 2)).trans ?_
  refine congrArg (Cert.ReferenceIdeal.Read.val_main_v45 g0 g1 g2 g3 g4) (funext fun a => Fin.ext ?_)
  match a with
  | ⟨0, _⟩ => rfl
  | ⟨1, _⟩ => show 512 * c.val + (i 1).val = c.val * 512 + (i 1).val; omega
  | ⟨2, _⟩ => rfl

theorem claim : Cert.Claim := ⟨Cert.Kernel.Gen.facts, Cert.KernelIdeal.Gen.facts, Cert.ReferenceIdeal.Gen.facts, Cert.Pre_finite_KernelIdeal.Gen.facts,
  Cert.Pre_finite_ReferenceIdeal.Gen.facts, frame_k, frame_ki, frame_ki_pre, frame_ri, frame_ri_pre, mask_ok, value_ok⟩

end Cert.Proof

end
